-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x26 : Shape := ⟨2, ![16384, 26]⟩
abbrev S1000000x64 : Shape := ⟨2, ![1000000, 64]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S1000000x64 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 1000000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S1000000x64 : Shape := ⟨2, ![1000000, 64]⟩
abbrev S26x16384 : Shape := ⟨2, ![26, 16384]⟩
abbrev S425984 : Shape := ⟨1, ![425984]⟩
abbrev S_ : Shape := ⟨0, ![]⟩
abbrev S425984x1 : Shape := ⟨2, ![425984, 1]⟩
abbrev S425984x64 : Shape := ⟨2, ![425984, 64]⟩
abbrev S26x64x16384 : Shape := ⟨3, ![26, 64, 16384]⟩
abbrev S128x64 : Shape := ⟨2, ![128, 64]⟩
abbrev S64x128 : Shape := ⟨2, ![64, 128]⟩
abbrev S16 : Shape := ⟨1, ![16]⟩
abbrev S1x64x128 : Shape := ⟨3, ![1, 64, 128]⟩
abbrev S16384x26x64 : Shape := ⟨3, ![16384, 26, 64]⟩

abbrev nBuf : Table → Nat
  | .hbm => 15
  | .local .scVector .vmem => 4
  | _ => 0

abbrev bufTy : (tb : Table) → Fin (nBuf tb) → BufTy
  | .hbm, ⟨0, _⟩ => ⟨S16384x26, .i32⟩
  | .hbm, ⟨1, _⟩ => ⟨S1000000x64, .f32⟩
  | .hbm, ⟨2, _⟩ => ⟨S26x16384, .i32⟩
  | .hbm, ⟨3, _⟩ => ⟨S425984, .i32⟩
  | .hbm, ⟨4, _⟩ => ⟨S_, .i32⟩
  | .hbm, ⟨5, _⟩ => ⟨S425984, .i32⟩
  | .hbm, ⟨6, _⟩ => ⟨S425984, .i1⟩
  | .hbm, ⟨7, _⟩ => ⟨S_, .i32⟩
  | .hbm, ⟨8, _⟩ => ⟨S425984, .i32⟩
  | .hbm, ⟨9, _⟩ => ⟨S425984, .i32⟩
  | .hbm, ⟨10, _⟩ => ⟨S425984, .i32⟩
  | .hbm, ⟨11, _⟩ => ⟨S425984x1, .i32⟩
  | .hbm, ⟨12, _⟩ => ⟨S425984x64, .f32⟩
  | .hbm, ⟨13, _⟩ => ⟨S26x64x16384, .f32⟩
  | .hbm, ⟨14, _⟩ => ⟨S16384x26x64, .f32⟩
  | .local .scVector .vmem, ⟨0, _⟩ => ⟨S128x64, .f32⟩
  | .local .scVector .vmem, ⟨1, _⟩ => ⟨S128x64, .f32⟩
  | .local .scVector .vmem, ⟨2, _⟩ => ⟨S64x128, .f32⟩
  | .local .scVector .vmem, ⟨3, _⟩ => ⟨S64x128, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v8_scv : Ref sig .scVector := ⟨.hbm, 12, rfl⟩
abbrev main_v9_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let v4 : BitVec 32 := Scalar.addi c0_i32 v3
  let c0_i32_0 : BitVec 32 := 0#32
  let v5 : BitVec 32 := Scalar.addi v4 c0_i32_0
  v5
def k0_off1 (i : grid0.Coords) (c0_i32_0 : BitVec 32) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let v4 : BitVec 32 := Scalar.addi c0_i32 v3
  let v5 : BitVec 32 := Scalar.addi v4 c0_i32_0
  let v6 : BitVec 32 := v5
  let c0_i32_1 : BitVec 32 := 0#32
  ![v6.toNat, 0]
def k0_mult2 (i : grid0.Coords) : BitVec 32 :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_3 : BitVec 32 := 512#32
  let v9 : BitVec 32 := Scalar.muli v1 c512_i32_3
  let v10 : BitVec 32 := Scalar.addi c0_i32_4 v9
  let c128_i32 : BitVec 32 := 128#32
  let v11 : BitVec 32 := Scalar.addi v10 c128_i32
  v11
@[reducible] def k0_t1_loop : Scf.Loop 32 :=
  let c0_i32_8 : BitVec 32 := 0#32
  let c52_i32 : BitVec 32 := 52#32
  let v15 : BitVec 32 := Scalar.addi c0_i32_8 c52_i32
  let c1_i32 : BitVec 32 := 1#32
  ⟨c0_i32_8, v15, c1_i32⟩
def k0_mult3 (i : grid0.Coords) (k0_t1 : Fin k0_t1_loop.trips) : BitVec 32 :=
  let c2_i32_17 : BitVec 32 := 2#32
  let c0_i32_8 : BitVec 32 := 0#32
  let c1_i32 : BitVec 32 := 1#32
  let arg12 : BitVec 32 := Scf.iv c0_i32_8 c1_i32 k0_t1
  let v30 : BitVec 32 := Scalar.muli c2_i32_17 arg12
  let c0_i32_18 : BitVec 32 := 0#32
  let v31 : BitVec 32 := Scalar.addi v30 c0_i32_18
  let c0_i32_19 : BitVec 32 := 0#32
  let v33 : BitVec 1 := Scalar.cmpi .sgt v31 c0_i32_19
  let v34 : BitVec 32 := Scalar.extui v33
  let c0_i32_20 : BitVec 32 := 0#32
  let v35 : BitVec 1 := Scalar.cmpi .slt v31 c0_i32_20
  let v36 : BitVec 32 := Scalar.extui v35
  let v37 : BitVec 32 := Scalar.subi v34 v36
  let c4_i32 : BitVec 32 := 4#32
  let c0_i32_21 : BitVec 32 := 0#32
  let v38 : BitVec 1 := Scalar.cmpi .sgt c4_i32 c0_i32_21
  let v39 : BitVec 32 := Scalar.extui v38
  let c0_i32_22 : BitVec 32 := 0#32
  let v40 : BitVec 1 := Scalar.cmpi .slt c4_i32 c0_i32_22
  let v41 : BitVec 32 := Scalar.extui v40
  let v42 : BitVec 32 := Scalar.subi v39 v41
  let v43 : BitVec 1 := Scalar.cmpi .ne v37 v42
  let v44 : BitVec 32 := Scalar.remsi v31 c4_i32
  let c0_i32_23 : BitVec 32 := 0#32
  let v45 : BitVec 1 := Scalar.cmpi .ne v44 c0_i32_23
  let v46 : BitVec 1 := Scalar.andi v43 v45
  let v32 : BitVec 32 := Scalar.divsi v31 c4_i32
  let c1_i32_24 : BitVec 32 := 1#32
  let v47 : BitVec 32 := Scalar.subi v32 c1_i32_24
  let v48 : BitVec 32 := Scalar.select v46 v47 v32
  let c16384_i32 : BitVec 32 := 16384#32
  let v59 : BitVec 32 := Scalar.muli v48 c16384_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_31 : BitVec 32 := 512#32
  let v60 : BitVec 32 := Scalar.muli v1 c512_i32_31
  let v61 : BitVec 32 := Scalar.addi v59 v60
  let c4_i32_25 : BitVec 32 := 4#32
  let c0_i32_26 : BitVec 32 := 0#32
  let v49 : BitVec 1 := Scalar.cmpi .eq c4_i32_25 c0_i32_26
  let c1_i32_27 : BitVec 32 := 1#32
  let v50 : BitVec 32 := Scalar.select v49 c1_i32_27 c4_i32_25
  let v51 : BitVec 32 := Scalar.remsi v31 v50
  let c0_i32_29 : BitVec 32 := 0#32
  let v53 : BitVec 1 := Scalar.cmpi .slt v51 c0_i32_29
  let c0_i32_30 : BitVec 32 := 0#32
  let v54 : BitVec 1 := Scalar.cmpi .slt v50 c0_i32_30
  let v55 : BitVec 1 := Scalar.xori v53 v54
  let c0_i32_28 : BitVec 32 := 0#32
  let v52 : BitVec 1 := Scalar.cmpi .ne v51 c0_i32_28
  let v56 : BitVec 1 := Scalar.andi v55 v52
  let v57 : BitVec 32 := Scalar.addi v51 v50
  let v58 : BitVec 32 := Scalar.select v56 v57 v51
  let c128_i32_32 : BitVec 32 := 128#32
  let v62 : BitVec 32 := Scalar.muli v58 c128_i32_32
  let v63 : BitVec 32 := Scalar.addi v61 v62
  v63
def k0_off2 (i : grid0.Coords) (k0_t1 : Fin k0_t1_loop.trips) : Fin 2 → Nat :=
  let c2_i32_17 : BitVec 32 := 2#32
  let c0_i32_8 : BitVec 32 := 0#32
  let c1_i32 : BitVec 32 := 1#32
  let arg12 : BitVec 32 := Scf.iv c0_i32_8 c1_i32 k0_t1
  let v30 : BitVec 32 := Scalar.muli c2_i32_17 arg12
  let c0_i32_18 : BitVec 32 := 0#32
  let v31 : BitVec 32 := Scalar.addi v30 c0_i32_18
  let c0_i32_19 : BitVec 32 := 0#32
  let v33 : BitVec 1 := Scalar.cmpi .sgt v31 c0_i32_19
  let v34 : BitVec 32 := Scalar.extui v33
  let c0_i32_20 : BitVec 32 := 0#32
  let v35 : BitVec 1 := Scalar.cmpi .slt v31 c0_i32_20
  let v36 : BitVec 32 := Scalar.extui v35
  let v37 : BitVec 32 := Scalar.subi v34 v36
  let c4_i32 : BitVec 32 := 4#32
  let c0_i32_21 : BitVec 32 := 0#32
  let v38 : BitVec 1 := Scalar.cmpi .sgt c4_i32 c0_i32_21
  let v39 : BitVec 32 := Scalar.extui v38
  let c0_i32_22 : BitVec 32 := 0#32
  let v40 : BitVec 1 := Scalar.cmpi .slt c4_i32 c0_i32_22
  let v41 : BitVec 32 := Scalar.extui v40
  let v42 : BitVec 32 := Scalar.subi v39 v41
  let v43 : BitVec 1 := Scalar.cmpi .ne v37 v42
  let v44 : BitVec 32 := Scalar.remsi v31 c4_i32
  let c0_i32_23 : BitVec 32 := 0#32
  let v45 : BitVec 1 := Scalar.cmpi .ne v44 c0_i32_23
  let v46 : BitVec 1 := Scalar.andi v43 v45
  let v32 : BitVec 32 := Scalar.divsi v31 c4_i32
  let c1_i32_24 : BitVec 32 := 1#32
  let v47 : BitVec 32 := Scalar.subi v32 c1_i32_24
  let v48 : BitVec 32 := Scalar.select v46 v47 v32
  let c16384_i32 : BitVec 32 := 16384#32
  let v59 : BitVec 32 := Scalar.muli v48 c16384_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_31 : BitVec 32 := 512#32
  let v60 : BitVec 32 := Scalar.muli v1 c512_i32_31
  let v61 : BitVec 32 := Scalar.addi v59 v60
  let c4_i32_25 : BitVec 32 := 4#32
  let c0_i32_26 : BitVec 32 := 0#32
  let v49 : BitVec 1 := Scalar.cmpi .eq c4_i32_25 c0_i32_26
  let c1_i32_27 : BitVec 32 := 1#32
  let v50 : BitVec 32 := Scalar.select v49 c1_i32_27 c4_i32_25
  let v51 : BitVec 32 := Scalar.remsi v31 v50
  let c0_i32_29 : BitVec 32 := 0#32
  let v53 : BitVec 1 := Scalar.cmpi .slt v51 c0_i32_29
  let c0_i32_30 : BitVec 32 := 0#32
  let v54 : BitVec 1 := Scalar.cmpi .slt v50 c0_i32_30
  let v55 : BitVec 1 := Scalar.xori v53 v54
  let c0_i32_28 : BitVec 32 := 0#32
  let v52 : BitVec 1 := Scalar.cmpi .ne v51 c0_i32_28
  let v56 : BitVec 1 := Scalar.andi v55 v52
  let v57 : BitVec 32 := Scalar.addi v51 v50
  let v58 : BitVec 32 := Scalar.select v56 v57 v51
  let c128_i32_32 : BitVec 32 := 128#32
  let v62 : BitVec 32 := Scalar.muli v58 c128_i32_32
  let v63 : BitVec 32 := Scalar.addi v61 v62
  let v64 : BitVec 32 := v63
  let c0_i32_33 : BitVec 32 := 0#32
  ![v64.toNat, 0]
def k0_cond1 (k0_t1 : Fin k0_t1_loop.trips) : BitVec 1 :=
  let c2_i32_17 : BitVec 32 := 2#32
  let c0_i32_8 : BitVec 32 := 0#32
  let c1_i32 : BitVec 32 := 1#32
  let arg12 : BitVec 32 := Scf.iv c0_i32_8 c1_i32 k0_t1
  let v30 : BitVec 32 := Scalar.muli c2_i32_17 arg12
  let c0_i32_18 : BitVec 32 := 0#32
  let v31 : BitVec 32 := Scalar.addi v30 c0_i32_18
  let c2_i32_35 : BitVec 32 := 2#32
  let v67 : BitVec 1 := Scalar.cmpi .sge v31 c2_i32_35
  let v68 : BitVec 32 := Scalar.extui v67
  let c0_i32_36 : BitVec 32 := 0#32
  let v69 : BitVec 1 := Scalar.cmpi .ne v68 c0_i32_36
  v69

def k0_mult4 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_132 : BitVec 32 := 512#32
  let v274 : BitVec 32 := Scalar.muli v1 c512_i32_132
  let c2_i32_17 : BitVec 32 := 2#32
  let c0_i32_8 : BitVec 32 := 0#32
  let c1_i32 : BitVec 32 := 1#32
  let arg12 : BitVec 32 := Scf.iv c0_i32_8 c1_i32 k0_t1
  let v30 : BitVec 32 := Scalar.muli c2_i32_17 arg12
  let c0_i32_18 : BitVec 32 := 0#32
  let v31 : BitVec 32 := Scalar.addi v30 c0_i32_18
  let c2_i32_118 : BitVec 32 := 2#32
  let v246 : BitVec 32 := Scalar.subi v31 c2_i32_118
  let c4_i32_126 : BitVec 32 := 4#32
  let c0_i32_127 : BitVec 32 := 0#32
  let v264 : BitVec 1 := Scalar.cmpi .eq c4_i32_126 c0_i32_127
  let c1_i32_128 : BitVec 32 := 1#32
  let v265 : BitVec 32 := Scalar.select v264 c1_i32_128 c4_i32_126
  let v266 : BitVec 32 := Scalar.remsi v246 v265
  let c0_i32_130 : BitVec 32 := 0#32
  let v268 : BitVec 1 := Scalar.cmpi .slt v266 c0_i32_130
  let c0_i32_131 : BitVec 32 := 0#32
  let v269 : BitVec 1 := Scalar.cmpi .slt v265 c0_i32_131
  let v270 : BitVec 1 := Scalar.xori v268 v269
  let c0_i32_129 : BitVec 32 := 0#32
  let v267 : BitVec 1 := Scalar.cmpi .ne v266 c0_i32_129
  let v271 : BitVec 1 := Scalar.andi v270 v267
  let v272 : BitVec 32 := Scalar.addi v266 v265
  let v273 : BitVec 32 := Scalar.select v271 v272 v266
  let c128_i32_133 : BitVec 32 := 128#32
  let v275 : BitVec 32 := Scalar.muli v273 c128_i32_133
  let v276 : BitVec 32 := Scalar.addi v274 v275
  v276
def k0_off3 (i : grid0.Coords) (k0_t1 : Fin k0_t1_loop.trips) : Fin 3 → Nat :=
  let c2_i32_17 : BitVec 32 := 2#32
  let c0_i32_8 : BitVec 32 := 0#32
  let c1_i32 : BitVec 32 := 1#32
  let arg12 : BitVec 32 := Scf.iv c0_i32_8 c1_i32 k0_t1
  let v30 : BitVec 32 := Scalar.muli c2_i32_17 arg12
  let c0_i32_18 : BitVec 32 := 0#32
  let v31 : BitVec 32 := Scalar.addi v30 c0_i32_18
  let c2_i32_118 : BitVec 32 := 2#32
  let v246 : BitVec 32 := Scalar.subi v31 c2_i32_118
  let c0_i32_120 : BitVec 32 := 0#32
  let v248 : BitVec 1 := Scalar.cmpi .sgt v246 c0_i32_120
  let v249 : BitVec 32 := Scalar.extui v248
  let c0_i32_121 : BitVec 32 := 0#32
  let v250 : BitVec 1 := Scalar.cmpi .slt v246 c0_i32_121
  let v251 : BitVec 32 := Scalar.extui v250
  let v252 : BitVec 32 := Scalar.subi v249 v251
  let c4_i32_119 : BitVec 32 := 4#32
  let c0_i32_122 : BitVec 32 := 0#32
  let v253 : BitVec 1 := Scalar.cmpi .sgt c4_i32_119 c0_i32_122
  let v254 : BitVec 32 := Scalar.extui v253
  let c0_i32_123 : BitVec 32 := 0#32
  let v255 : BitVec 1 := Scalar.cmpi .slt c4_i32_119 c0_i32_123
  let v256 : BitVec 32 := Scalar.extui v255
  let v257 : BitVec 32 := Scalar.subi v254 v256
  let v258 : BitVec 1 := Scalar.cmpi .ne v252 v257
  let v259 : BitVec 32 := Scalar.remsi v246 c4_i32_119
  let c0_i32_124 : BitVec 32 := 0#32
  let v260 : BitVec 1 := Scalar.cmpi .ne v259 c0_i32_124
  let v261 : BitVec 1 := Scalar.andi v258 v260
  let v247 : BitVec 32 := Scalar.divsi v246 c4_i32_119
  let c1_i32_125 : BitVec 32 := 1#32
  let v262 : BitVec 32 := Scalar.subi v247 c1_i32_125
  let v263 : BitVec 32 := Scalar.select v261 v262 v247
  let c0_i32_134 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_132 : BitVec 32 := 512#32
  let v274 : BitVec 32 := Scalar.muli v1 c512_i32_132
  let c4_i32_126 : BitVec 32 := 4#32
  let c0_i32_127 : BitVec 32 := 0#32
  let v264 : BitVec 1 := Scalar.cmpi .eq c4_i32_126 c0_i32_127
  let c1_i32_128 : BitVec 32 := 1#32
  let v265 : BitVec 32 := Scalar.select v264 c1_i32_128 c4_i32_126
  let v266 : BitVec 32 := Scalar.remsi v246 v265
  let c0_i32_130 : BitVec 32 := 0#32
  let v268 : BitVec 1 := Scalar.cmpi .slt v266 c0_i32_130
  let c0_i32_131 : BitVec 32 := 0#32
  let v269 : BitVec 1 := Scalar.cmpi .slt v265 c0_i32_131
  let v270 : BitVec 1 := Scalar.xori v268 v269
  let c0_i32_129 : BitVec 32 := 0#32
  let v267 : BitVec 1 := Scalar.cmpi .ne v266 c0_i32_129
  let v271 : BitVec 1 := Scalar.andi v270 v267
  let v272 : BitVec 32 := Scalar.addi v266 v265
  let v273 : BitVec 32 := Scalar.select v271 v272 v266
  let c128_i32_133 : BitVec 32 := 128#32
  let v275 : BitVec 32 := Scalar.muli v273 c128_i32_133
  let v276 : BitVec 32 := Scalar.addi v274 v275
  let v277 : BitVec 32 := v276
  ![v263.toNat, 0, v277.toNat]

def k0_chk1 (v71 : IVec S16 32) (v73 : IVec S16 32) (v75 : IVec S16 32) (v77 : IVec S16 32) (v79 : IVec S16 32) (v81 : IVec S16 32) (v83 : IVec S16 32) (v85 : IVec S16 32) (v86 : IVec S16 32) : Prop :=
  (∀ a x, ((![v71, v86] : Fin 2 → IVec S16 32) a x).toNat < S128x64.size a) ∧
  (∀ a x, ((![v73, v86] : Fin 2 → IVec S16 32) a x).toNat < S128x64.size a) ∧
  (∀ a x, ((![v75, v86] : Fin 2 → IVec S16 32) a x).toNat < S128x64.size a) ∧
  (∀ a x, ((![v77, v86] : Fin 2 → IVec S16 32) a x).toNat < S128x64.size a) ∧
  (∀ a x, ((![v79, v86] : Fin 2 → IVec S16 32) a x).toNat < S128x64.size a) ∧
  (∀ a x, ((![v81, v86] : Fin 2 → IVec S16 32) a x).toNat < S128x64.size a) ∧
  (∀ a x, ((![v83, v86] : Fin 2 → IVec S16 32) a x).toNat < S128x64.size a) ∧
  (∀ a x, ((![v85, v86] : Fin 2 → IVec S16 32) a x).toNat < S128x64.size a)
theorem k0_idx1_inb : ∀ (v71 : IVec S16 32) (v73 : IVec S16 32) (v75 : IVec S16 32) (v77 : IVec S16 32) (v79 : IVec S16 32) (v81 : IVec S16 32) (v83 : IVec S16 32) (v85 : IVec S16 32) (v86 : IVec S16 32) (k0_hw1 : k0_chk1 v71 v73 v75 v77 v79 v81 v83 v85 v86), ∀ a x, ((![v71, v86] : Fin 2 → IVec S16 32) a x).toNat < S128x64.size a := fun v71 v73 v75 v77 v79 v81 v83 v85 v86 k0_hw1 => k0_hw1.1
theorem k0_idx2_inb : ∀ (v71 : IVec S16 32) (v73 : IVec S16 32) (v75 : IVec S16 32) (v77 : IVec S16 32) (v79 : IVec S16 32) (v81 : IVec S16 32) (v83 : IVec S16 32) (v85 : IVec S16 32) (v86 : IVec S16 32) (k0_hw1 : k0_chk1 v71 v73 v75 v77 v79 v81 v83 v85 v86), ∀ a x, ((![v73, v86] : Fin 2 → IVec S16 32) a x).toNat < S128x64.size a := fun v71 v73 v75 v77 v79 v81 v83 v85 v86 k0_hw1 => k0_hw1.2.1
theorem k0_idx3_inb : ∀ (v71 : IVec S16 32) (v73 : IVec S16 32) (v75 : IVec S16 32) (v77 : IVec S16 32) (v79 : IVec S16 32) (v81 : IVec S16 32) (v83 : IVec S16 32) (v85 : IVec S16 32) (v86 : IVec S16 32) (k0_hw1 : k0_chk1 v71 v73 v75 v77 v79 v81 v83 v85 v86), ∀ a x, ((![v75, v86] : Fin 2 → IVec S16 32) a x).toNat < S128x64.size a := fun v71 v73 v75 v77 v79 v81 v83 v85 v86 k0_hw1 => k0_hw1.2.2.1
theorem k0_idx4_inb : ∀ (v71 : IVec S16 32) (v73 : IVec S16 32) (v75 : IVec S16 32) (v77 : IVec S16 32) (v79 : IVec S16 32) (v81 : IVec S16 32) (v83 : IVec S16 32) (v85 : IVec S16 32) (v86 : IVec S16 32) (k0_hw1 : k0_chk1 v71 v73 v75 v77 v79 v81 v83 v85 v86), ∀ a x, ((![v77, v86] : Fin 2 → IVec S16 32) a x).toNat < S128x64.size a := fun v71 v73 v75 v77 v79 v81 v83 v85 v86 k0_hw1 => k0_hw1.2.2.2.1
theorem k0_idx5_inb : ∀ (v71 : IVec S16 32) (v73 : IVec S16 32) (v75 : IVec S16 32) (v77 : IVec S16 32) (v79 : IVec S16 32) (v81 : IVec S16 32) (v83 : IVec S16 32) (v85 : IVec S16 32) (v86 : IVec S16 32) (k0_hw1 : k0_chk1 v71 v73 v75 v77 v79 v81 v83 v85 v86), ∀ a x, ((![v79, v86] : Fin 2 → IVec S16 32) a x).toNat < S128x64.size a := fun v71 v73 v75 v77 v79 v81 v83 v85 v86 k0_hw1 => k0_hw1.2.2.2.2.1
theorem k0_idx6_inb : ∀ (v71 : IVec S16 32) (v73 : IVec S16 32) (v75 : IVec S16 32) (v77 : IVec S16 32) (v79 : IVec S16 32) (v81 : IVec S16 32) (v83 : IVec S16 32) (v85 : IVec S16 32) (v86 : IVec S16 32) (k0_hw1 : k0_chk1 v71 v73 v75 v77 v79 v81 v83 v85 v86), ∀ a x, ((![v81, v86] : Fin 2 → IVec S16 32) a x).toNat < S128x64.size a := fun v71 v73 v75 v77 v79 v81 v83 v85 v86 k0_hw1 => k0_hw1.2.2.2.2.2.1
theorem k0_idx7_inb : ∀ (v71 : IVec S16 32) (v73 : IVec S16 32) (v75 : IVec S16 32) (v77 : IVec S16 32) (v79 : IVec S16 32) (v81 : IVec S16 32) (v83 : IVec S16 32) (v85 : IVec S16 32) (v86 : IVec S16 32) (k0_hw1 : k0_chk1 v71 v73 v75 v77 v79 v81 v83 v85 v86), ∀ a x, ((![v83, v86] : Fin 2 → IVec S16 32) a x).toNat < S128x64.size a := fun v71 v73 v75 v77 v79 v81 v83 v85 v86 k0_hw1 => k0_hw1.2.2.2.2.2.2.1
theorem k0_idx8_inb : ∀ (v71 : IVec S16 32) (v73 : IVec S16 32) (v75 : IVec S16 32) (v77 : IVec S16 32) (v79 : IVec S16 32) (v81 : IVec S16 32) (v83 : IVec S16 32) (v85 : IVec S16 32) (v86 : IVec S16 32) (k0_hw1 : k0_chk1 v71 v73 v75 v77 v79 v81 v83 v85 v86), ∀ a x, ((![v85, v86] : Fin 2 → IVec S16 32) a x).toNat < S128x64.size a := fun v71 v73 v75 v77 v79 v81 v83 v85 v86 k0_hw1 => k0_hw1.2.2.2.2.2.2.2
@[reducible] def k0_t2_loop : Scf.Loop 32 :=
  let c1_i32_40 : BitVec 32 := 1#32
  let c63_i32 : BitVec 32 := 63#32
  let v97 : BitVec 32 := Scalar.addi c1_i32_40 c63_i32
  let c1_i32_41 : BitVec 32 := 1#32
  ⟨c1_i32_40, v97, c1_i32_41⟩

def k0_chk2 (v71 : IVec S16 32) (v73 : IVec S16 32) (v75 : IVec S16 32) (v77 : IVec S16 32) (v79 : IVec S16 32) (v81 : IVec S16 32) (v83 : IVec S16 32) (v85 : IVec S16 32) (arg14 : IVec S16 32) : Prop :=
  (∀ a x, ((![v71, arg14] : Fin 2 → IVec S16 32) a x).toNat < S128x64.size a) ∧
  (∀ a x, ((![v73, arg14] : Fin 2 → IVec S16 32) a x).toNat < S128x64.size a) ∧
  (∀ a x, ((![v75, arg14] : Fin 2 → IVec S16 32) a x).toNat < S128x64.size a) ∧
  (∀ a x, ((![v77, arg14] : Fin 2 → IVec S16 32) a x).toNat < S128x64.size a) ∧
  (∀ a x, ((![v79, arg14] : Fin 2 → IVec S16 32) a x).toNat < S128x64.size a) ∧
  (∀ a x, ((![v81, arg14] : Fin 2 → IVec S16 32) a x).toNat < S128x64.size a) ∧
  (∀ a x, ((![v83, arg14] : Fin 2 → IVec S16 32) a x).toNat < S128x64.size a) ∧
  (∀ a x, ((![v85, arg14] : Fin 2 → IVec S16 32) a x).toNat < S128x64.size a)
theorem k0_idx9_inb : ∀ (v71 : IVec S16 32) (v73 : IVec S16 32) (v75 : IVec S16 32) (v77 : IVec S16 32) (v79 : IVec S16 32) (v81 : IVec S16 32) (v83 : IVec S16 32) (v85 : IVec S16 32) (arg14 : IVec S16 32) (k0_hw2 : k0_chk2 v71 v73 v75 v77 v79 v81 v83 v85 arg14), ∀ a x, ((![v71, arg14] : Fin 2 → IVec S16 32) a x).toNat < S128x64.size a := fun v71 v73 v75 v77 v79 v81 v83 v85 arg14 k0_hw2 => k0_hw2.1
theorem k0_idx10_inb : ∀ (v71 : IVec S16 32) (v73 : IVec S16 32) (v75 : IVec S16 32) (v77 : IVec S16 32) (v79 : IVec S16 32) (v81 : IVec S16 32) (v83 : IVec S16 32) (v85 : IVec S16 32) (arg14 : IVec S16 32) (k0_hw2 : k0_chk2 v71 v73 v75 v77 v79 v81 v83 v85 arg14), ∀ a x, ((![v73, arg14] : Fin 2 → IVec S16 32) a x).toNat < S128x64.size a := fun v71 v73 v75 v77 v79 v81 v83 v85 arg14 k0_hw2 => k0_hw2.2.1
theorem k0_idx11_inb : ∀ (v71 : IVec S16 32) (v73 : IVec S16 32) (v75 : IVec S16 32) (v77 : IVec S16 32) (v79 : IVec S16 32) (v81 : IVec S16 32) (v83 : IVec S16 32) (v85 : IVec S16 32) (arg14 : IVec S16 32) (k0_hw2 : k0_chk2 v71 v73 v75 v77 v79 v81 v83 v85 arg14), ∀ a x, ((![v75, arg14] : Fin 2 → IVec S16 32) a x).toNat < S128x64.size a := fun v71 v73 v75 v77 v79 v81 v83 v85 arg14 k0_hw2 => k0_hw2.2.2.1
theorem k0_idx12_inb : ∀ (v71 : IVec S16 32) (v73 : IVec S16 32) (v75 : IVec S16 32) (v77 : IVec S16 32) (v79 : IVec S16 32) (v81 : IVec S16 32) (v83 : IVec S16 32) (v85 : IVec S16 32) (arg14 : IVec S16 32) (k0_hw2 : k0_chk2 v71 v73 v75 v77 v79 v81 v83 v85 arg14), ∀ a x, ((![v77, arg14] : Fin 2 → IVec S16 32) a x).toNat < S128x64.size a := fun v71 v73 v75 v77 v79 v81 v83 v85 arg14 k0_hw2 => k0_hw2.2.2.2.1
theorem k0_idx13_inb : ∀ (v71 : IVec S16 32) (v73 : IVec S16 32) (v75 : IVec S16 32) (v77 : IVec S16 32) (v79 : IVec S16 32) (v81 : IVec S16 32) (v83 : IVec S16 32) (v85 : IVec S16 32) (arg14 : IVec S16 32) (k0_hw2 : k0_chk2 v71 v73 v75 v77 v79 v81 v83 v85 arg14), ∀ a x, ((![v79, arg14] : Fin 2 → IVec S16 32) a x).toNat < S128x64.size a := fun v71 v73 v75 v77 v79 v81 v83 v85 arg14 k0_hw2 => k0_hw2.2.2.2.2.1
theorem k0_idx14_inb : ∀ (v71 : IVec S16 32) (v73 : IVec S16 32) (v75 : IVec S16 32) (v77 : IVec S16 32) (v79 : IVec S16 32) (v81 : IVec S16 32) (v83 : IVec S16 32) (v85 : IVec S16 32) (arg14 : IVec S16 32) (k0_hw2 : k0_chk2 v71 v73 v75 v77 v79 v81 v83 v85 arg14), ∀ a x, ((![v81, arg14] : Fin 2 → IVec S16 32) a x).toNat < S128x64.size a := fun v71 v73 v75 v77 v79 v81 v83 v85 arg14 k0_hw2 => k0_hw2.2.2.2.2.2.1
theorem k0_idx15_inb : ∀ (v71 : IVec S16 32) (v73 : IVec S16 32) (v75 : IVec S16 32) (v77 : IVec S16 32) (v79 : IVec S16 32) (v81 : IVec S16 32) (v83 : IVec S16 32) (v85 : IVec S16 32) (arg14 : IVec S16 32) (k0_hw2 : k0_chk2 v71 v73 v75 v77 v79 v81 v83 v85 arg14), ∀ a x, ((![v83, arg14] : Fin 2 → IVec S16 32) a x).toNat < S128x64.size a := fun v71 v73 v75 v77 v79 v81 v83 v85 arg14 k0_hw2 => k0_hw2.2.2.2.2.2.2.1
theorem k0_idx16_inb : ∀ (v71 : IVec S16 32) (v73 : IVec S16 32) (v75 : IVec S16 32) (v77 : IVec S16 32) (v79 : IVec S16 32) (v81 : IVec S16 32) (v83 : IVec S16 32) (v85 : IVec S16 32) (arg14 : IVec S16 32) (k0_hw2 : k0_chk2 v71 v73 v75 v77 v79 v81 v83 v85 arg14), ∀ a x, ((![v85, arg14] : Fin 2 → IVec S16 32) a x).toNat < S128x64.size a := fun v71 v73 v75 v77 v79 v81 v83 v85 arg14 k0_hw2 => k0_hw2.2.2.2.2.2.2.2

def k0_chk3 (v71 : IVec S16 32) (v73 : IVec S16 32) (v75 : IVec S16 32) (v77 : IVec S16 32) (v79 : IVec S16 32) (v81 : IVec S16 32) (v83 : IVec S16 32) (v85 : IVec S16 32) (arg15 : IVec S16 32) : Prop :=
  (∀ a x, ((![arg15, v71] : Fin 2 → IVec S16 32) a x).toNat < S64x128.size a) ∧
  (∀ a x, ((![arg15, v73] : Fin 2 → IVec S16 32) a x).toNat < S64x128.size a) ∧
  (∀ a x, ((![arg15, v75] : Fin 2 → IVec S16 32) a x).toNat < S64x128.size a) ∧
  (∀ a x, ((![arg15, v77] : Fin 2 → IVec S16 32) a x).toNat < S64x128.size a) ∧
  (∀ a x, ((![arg15, v79] : Fin 2 → IVec S16 32) a x).toNat < S64x128.size a) ∧
  (∀ a x, ((![arg15, v81] : Fin 2 → IVec S16 32) a x).toNat < S64x128.size a) ∧
  (∀ a x, ((![arg15, v83] : Fin 2 → IVec S16 32) a x).toNat < S64x128.size a) ∧
  (∀ a x, ((![arg15, v85] : Fin 2 → IVec S16 32) a x).toNat < S64x128.size a)
theorem k0_idx17_inb : ∀ (v71 : IVec S16 32) (v73 : IVec S16 32) (v75 : IVec S16 32) (v77 : IVec S16 32) (v79 : IVec S16 32) (v81 : IVec S16 32) (v83 : IVec S16 32) (v85 : IVec S16 32) (arg15 : IVec S16 32) (k0_hw3 : k0_chk3 v71 v73 v75 v77 v79 v81 v83 v85 arg15), ∀ a x, ((![arg15, v71] : Fin 2 → IVec S16 32) a x).toNat < S64x128.size a := fun v71 v73 v75 v77 v79 v81 v83 v85 arg15 k0_hw3 => k0_hw3.1
theorem k0_idx18_inb : ∀ (v71 : IVec S16 32) (v73 : IVec S16 32) (v75 : IVec S16 32) (v77 : IVec S16 32) (v79 : IVec S16 32) (v81 : IVec S16 32) (v83 : IVec S16 32) (v85 : IVec S16 32) (arg15 : IVec S16 32) (k0_hw3 : k0_chk3 v71 v73 v75 v77 v79 v81 v83 v85 arg15), ∀ a x, ((![arg15, v73] : Fin 2 → IVec S16 32) a x).toNat < S64x128.size a := fun v71 v73 v75 v77 v79 v81 v83 v85 arg15 k0_hw3 => k0_hw3.2.1
theorem k0_idx19_inb : ∀ (v71 : IVec S16 32) (v73 : IVec S16 32) (v75 : IVec S16 32) (v77 : IVec S16 32) (v79 : IVec S16 32) (v81 : IVec S16 32) (v83 : IVec S16 32) (v85 : IVec S16 32) (arg15 : IVec S16 32) (k0_hw3 : k0_chk3 v71 v73 v75 v77 v79 v81 v83 v85 arg15), ∀ a x, ((![arg15, v75] : Fin 2 → IVec S16 32) a x).toNat < S64x128.size a := fun v71 v73 v75 v77 v79 v81 v83 v85 arg15 k0_hw3 => k0_hw3.2.2.1
theorem k0_idx20_inb : ∀ (v71 : IVec S16 32) (v73 : IVec S16 32) (v75 : IVec S16 32) (v77 : IVec S16 32) (v79 : IVec S16 32) (v81 : IVec S16 32) (v83 : IVec S16 32) (v85 : IVec S16 32) (arg15 : IVec S16 32) (k0_hw3 : k0_chk3 v71 v73 v75 v77 v79 v81 v83 v85 arg15), ∀ a x, ((![arg15, v77] : Fin 2 → IVec S16 32) a x).toNat < S64x128.size a := fun v71 v73 v75 v77 v79 v81 v83 v85 arg15 k0_hw3 => k0_hw3.2.2.2.1
theorem k0_idx21_inb : ∀ (v71 : IVec S16 32) (v73 : IVec S16 32) (v75 : IVec S16 32) (v77 : IVec S16 32) (v79 : IVec S16 32) (v81 : IVec S16 32) (v83 : IVec S16 32) (v85 : IVec S16 32) (arg15 : IVec S16 32) (k0_hw3 : k0_chk3 v71 v73 v75 v77 v79 v81 v83 v85 arg15), ∀ a x, ((![arg15, v79] : Fin 2 → IVec S16 32) a x).toNat < S64x128.size a := fun v71 v73 v75 v77 v79 v81 v83 v85 arg15 k0_hw3 => k0_hw3.2.2.2.2.1
theorem k0_idx22_inb : ∀ (v71 : IVec S16 32) (v73 : IVec S16 32) (v75 : IVec S16 32) (v77 : IVec S16 32) (v79 : IVec S16 32) (v81 : IVec S16 32) (v83 : IVec S16 32) (v85 : IVec S16 32) (arg15 : IVec S16 32) (k0_hw3 : k0_chk3 v71 v73 v75 v77 v79 v81 v83 v85 arg15), ∀ a x, ((![arg15, v81] : Fin 2 → IVec S16 32) a x).toNat < S64x128.size a := fun v71 v73 v75 v77 v79 v81 v83 v85 arg15 k0_hw3 => k0_hw3.2.2.2.2.2.1
theorem k0_idx23_inb : ∀ (v71 : IVec S16 32) (v73 : IVec S16 32) (v75 : IVec S16 32) (v77 : IVec S16 32) (v79 : IVec S16 32) (v81 : IVec S16 32) (v83 : IVec S16 32) (v85 : IVec S16 32) (arg15 : IVec S16 32) (k0_hw3 : k0_chk3 v71 v73 v75 v77 v79 v81 v83 v85 arg15), ∀ a x, ((![arg15, v83] : Fin 2 → IVec S16 32) a x).toNat < S64x128.size a := fun v71 v73 v75 v77 v79 v81 v83 v85 arg15 k0_hw3 => k0_hw3.2.2.2.2.2.2.1
theorem k0_idx24_inb : ∀ (v71 : IVec S16 32) (v73 : IVec S16 32) (v75 : IVec S16 32) (v77 : IVec S16 32) (v79 : IVec S16 32) (v81 : IVec S16 32) (v83 : IVec S16 32) (v85 : IVec S16 32) (arg15 : IVec S16 32) (k0_hw3 : k0_chk3 v71 v73 v75 v77 v79 v81 v83 v85 arg15), ∀ a x, ((![arg15, v85] : Fin 2 → IVec S16 32) a x).toNat < S64x128.size a := fun v71 v73 v75 v77 v79 v81 v83 v85 arg15 k0_hw3 => k0_hw3.2.2.2.2.2.2.2

def k0_chk4 (v71 : IVec S16 32) (v73 : IVec S16 32) (v75 : IVec S16 32) (v77 : IVec S16 32) (v79 : IVec S16 32) (v81 : IVec S16 32) (v83 : IVec S16 32) (v85 : IVec S16 32) (v98_1 : IVec S16 32) : Prop :=
  (∀ a x, ((![v98_1, v71] : Fin 2 → IVec S16 32) a x).toNat < S64x128.size a) ∧
  (∀ a x, ((![v98_1, v73] : Fin 2 → IVec S16 32) a x).toNat < S64x128.size a) ∧
  (∀ a x, ((![v98_1, v75] : Fin 2 → IVec S16 32) a x).toNat < S64x128.size a) ∧
  (∀ a x, ((![v98_1, v77] : Fin 2 → IVec S16 32) a x).toNat < S64x128.size a) ∧
  (∀ a x, ((![v98_1, v79] : Fin 2 → IVec S16 32) a x).toNat < S64x128.size a) ∧
  (∀ a x, ((![v98_1, v81] : Fin 2 → IVec S16 32) a x).toNat < S64x128.size a) ∧
  (∀ a x, ((![v98_1, v83] : Fin 2 → IVec S16 32) a x).toNat < S64x128.size a) ∧
  (∀ a x, ((![v98_1, v85] : Fin 2 → IVec S16 32) a x).toNat < S64x128.size a)
theorem k0_idx25_inb : ∀ (v71 : IVec S16 32) (v73 : IVec S16 32) (v75 : IVec S16 32) (v77 : IVec S16 32) (v79 : IVec S16 32) (v81 : IVec S16 32) (v83 : IVec S16 32) (v85 : IVec S16 32) (v98_1 : IVec S16 32) (k0_hw4 : k0_chk4 v71 v73 v75 v77 v79 v81 v83 v85 v98_1), ∀ a x, ((![v98_1, v71] : Fin 2 → IVec S16 32) a x).toNat < S64x128.size a := fun v71 v73 v75 v77 v79 v81 v83 v85 v98_1 k0_hw4 => k0_hw4.1
theorem k0_idx26_inb : ∀ (v71 : IVec S16 32) (v73 : IVec S16 32) (v75 : IVec S16 32) (v77 : IVec S16 32) (v79 : IVec S16 32) (v81 : IVec S16 32) (v83 : IVec S16 32) (v85 : IVec S16 32) (v98_1 : IVec S16 32) (k0_hw4 : k0_chk4 v71 v73 v75 v77 v79 v81 v83 v85 v98_1), ∀ a x, ((![v98_1, v73] : Fin 2 → IVec S16 32) a x).toNat < S64x128.size a := fun v71 v73 v75 v77 v79 v81 v83 v85 v98_1 k0_hw4 => k0_hw4.2.1
theorem k0_idx27_inb : ∀ (v71 : IVec S16 32) (v73 : IVec S16 32) (v75 : IVec S16 32) (v77 : IVec S16 32) (v79 : IVec S16 32) (v81 : IVec S16 32) (v83 : IVec S16 32) (v85 : IVec S16 32) (v98_1 : IVec S16 32) (k0_hw4 : k0_chk4 v71 v73 v75 v77 v79 v81 v83 v85 v98_1), ∀ a x, ((![v98_1, v75] : Fin 2 → IVec S16 32) a x).toNat < S64x128.size a := fun v71 v73 v75 v77 v79 v81 v83 v85 v98_1 k0_hw4 => k0_hw4.2.2.1
theorem k0_idx28_inb : ∀ (v71 : IVec S16 32) (v73 : IVec S16 32) (v75 : IVec S16 32) (v77 : IVec S16 32) (v79 : IVec S16 32) (v81 : IVec S16 32) (v83 : IVec S16 32) (v85 : IVec S16 32) (v98_1 : IVec S16 32) (k0_hw4 : k0_chk4 v71 v73 v75 v77 v79 v81 v83 v85 v98_1), ∀ a x, ((![v98_1, v77] : Fin 2 → IVec S16 32) a x).toNat < S64x128.size a := fun v71 v73 v75 v77 v79 v81 v83 v85 v98_1 k0_hw4 => k0_hw4.2.2.2.1
theorem k0_idx29_inb : ∀ (v71 : IVec S16 32) (v73 : IVec S16 32) (v75 : IVec S16 32) (v77 : IVec S16 32) (v79 : IVec S16 32) (v81 : IVec S16 32) (v83 : IVec S16 32) (v85 : IVec S16 32) (v98_1 : IVec S16 32) (k0_hw4 : k0_chk4 v71 v73 v75 v77 v79 v81 v83 v85 v98_1), ∀ a x, ((![v98_1, v79] : Fin 2 → IVec S16 32) a x).toNat < S64x128.size a := fun v71 v73 v75 v77 v79 v81 v83 v85 v98_1 k0_hw4 => k0_hw4.2.2.2.2.1
theorem k0_idx30_inb : ∀ (v71 : IVec S16 32) (v73 : IVec S16 32) (v75 : IVec S16 32) (v77 : IVec S16 32) (v79 : IVec S16 32) (v81 : IVec S16 32) (v83 : IVec S16 32) (v85 : IVec S16 32) (v98_1 : IVec S16 32) (k0_hw4 : k0_chk4 v71 v73 v75 v77 v79 v81 v83 v85 v98_1), ∀ a x, ((![v98_1, v81] : Fin 2 → IVec S16 32) a x).toNat < S64x128.size a := fun v71 v73 v75 v77 v79 v81 v83 v85 v98_1 k0_hw4 => k0_hw4.2.2.2.2.2.1
theorem k0_idx31_inb : ∀ (v71 : IVec S16 32) (v73 : IVec S16 32) (v75 : IVec S16 32) (v77 : IVec S16 32) (v79 : IVec S16 32) (v81 : IVec S16 32) (v83 : IVec S16 32) (v85 : IVec S16 32) (v98_1 : IVec S16 32) (k0_hw4 : k0_chk4 v71 v73 v75 v77 v79 v81 v83 v85 v98_1), ∀ a x, ((![v98_1, v83] : Fin 2 → IVec S16 32) a x).toNat < S64x128.size a := fun v71 v73 v75 v77 v79 v81 v83 v85 v98_1 k0_hw4 => k0_hw4.2.2.2.2.2.2.1
theorem k0_idx32_inb : ∀ (v71 : IVec S16 32) (v73 : IVec S16 32) (v75 : IVec S16 32) (v77 : IVec S16 32) (v79 : IVec S16 32) (v81 : IVec S16 32) (v83 : IVec S16 32) (v85 : IVec S16 32) (v98_1 : IVec S16 32) (k0_hw4 : k0_chk4 v71 v73 v75 v77 v79 v81 v83 v85 v98_1), ∀ a x, ((![v98_1, v85] : Fin 2 → IVec S16 32) a x).toNat < S64x128.size a := fun v71 v73 v75 v77 v79 v81 v83 v85 v98_1 k0_hw4 => k0_hw4.2.2.2.2.2.2.2
def k0_mult5 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_56 : BitVec 32 := 512#32
  let v126 : BitVec 32 := Scalar.muli v1 c512_i32_56
  let c2_i32_17 : BitVec 32 := 2#32
  let c0_i32_8 : BitVec 32 := 0#32
  let c1_i32 : BitVec 32 := 1#32
  let arg12 : BitVec 32 := Scf.iv c0_i32_8 c1_i32 k0_t1
  let v30 : BitVec 32 := Scalar.muli c2_i32_17 arg12
  let c0_i32_18 : BitVec 32 := 0#32
  let v31 : BitVec 32 := Scalar.addi v30 c0_i32_18
  let c4_i32_50 : BitVec 32 := 4#32
  let c0_i32_51 : BitVec 32 := 0#32
  let v116 : BitVec 1 := Scalar.cmpi .eq c4_i32_50 c0_i32_51
  let c1_i32_52 : BitVec 32 := 1#32
  let v117 : BitVec 32 := Scalar.select v116 c1_i32_52 c4_i32_50
  let v118 : BitVec 32 := Scalar.remsi v31 v117
  let c0_i32_54 : BitVec 32 := 0#32
  let v120 : BitVec 1 := Scalar.cmpi .slt v118 c0_i32_54
  let c0_i32_55 : BitVec 32 := 0#32
  let v121 : BitVec 1 := Scalar.cmpi .slt v117 c0_i32_55
  let v122 : BitVec 1 := Scalar.xori v120 v121
  let c0_i32_53 : BitVec 32 := 0#32
  let v119 : BitVec 1 := Scalar.cmpi .ne v118 c0_i32_53
  let v123 : BitVec 1 := Scalar.andi v122 v119
  let v124 : BitVec 32 := Scalar.addi v118 v117
  let v125 : BitVec 32 := Scalar.select v123 v124 v118
  let c128_i32_57 : BitVec 32 := 128#32
  let v127 : BitVec 32 := Scalar.muli v125 c128_i32_57
  let v128 : BitVec 32 := Scalar.addi v126 v127
  v128
def k0_off4 (i : grid0.Coords) (k0_t1 : Fin k0_t1_loop.trips) : Fin 3 → Nat :=
  let c2_i32_17 : BitVec 32 := 2#32
  let c0_i32_8 : BitVec 32 := 0#32
  let c1_i32 : BitVec 32 := 1#32
  let arg12 : BitVec 32 := Scf.iv c0_i32_8 c1_i32 k0_t1
  let v30 : BitVec 32 := Scalar.muli c2_i32_17 arg12
  let c0_i32_18 : BitVec 32 := 0#32
  let v31 : BitVec 32 := Scalar.addi v30 c0_i32_18
  let c0_i32_44 : BitVec 32 := 0#32
  let v100 : BitVec 1 := Scalar.cmpi .sgt v31 c0_i32_44
  let v101 : BitVec 32 := Scalar.extui v100
  let c0_i32_45 : BitVec 32 := 0#32
  let v102 : BitVec 1 := Scalar.cmpi .slt v31 c0_i32_45
  let v103 : BitVec 32 := Scalar.extui v102
  let v104 : BitVec 32 := Scalar.subi v101 v103
  let c4_i32_43 : BitVec 32 := 4#32
  let c0_i32_46 : BitVec 32 := 0#32
  let v105 : BitVec 1 := Scalar.cmpi .sgt c4_i32_43 c0_i32_46
  let v106 : BitVec 32 := Scalar.extui v105
  let c0_i32_47 : BitVec 32 := 0#32
  let v107 : BitVec 1 := Scalar.cmpi .slt c4_i32_43 c0_i32_47
  let v108 : BitVec 32 := Scalar.extui v107
  let v109 : BitVec 32 := Scalar.subi v106 v108
  let v110 : BitVec 1 := Scalar.cmpi .ne v104 v109
  let v111 : BitVec 32 := Scalar.remsi v31 c4_i32_43
  let c0_i32_48 : BitVec 32 := 0#32
  let v112 : BitVec 1 := Scalar.cmpi .ne v111 c0_i32_48
  let v113 : BitVec 1 := Scalar.andi v110 v112
  let v99 : BitVec 32 := Scalar.divsi v31 c4_i32_43
  let c1_i32_49 : BitVec 32 := 1#32
  let v114 : BitVec 32 := Scalar.subi v99 c1_i32_49
  let v115 : BitVec 32 := Scalar.select v113 v114 v99
  let c0_i32_58 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_56 : BitVec 32 := 512#32
  let v126 : BitVec 32 := Scalar.muli v1 c512_i32_56
  let c4_i32_50 : BitVec 32 := 4#32
  let c0_i32_51 : BitVec 32 := 0#32
  let v116 : BitVec 1 := Scalar.cmpi .eq c4_i32_50 c0_i32_51
  let c1_i32_52 : BitVec 32 := 1#32
  let v117 : BitVec 32 := Scalar.select v116 c1_i32_52 c4_i32_50
  let v118 : BitVec 32 := Scalar.remsi v31 v117
  let c0_i32_54 : BitVec 32 := 0#32
  let v120 : BitVec 1 := Scalar.cmpi .slt v118 c0_i32_54
  let c0_i32_55 : BitVec 32 := 0#32
  let v121 : BitVec 1 := Scalar.cmpi .slt v117 c0_i32_55
  let v122 : BitVec 1 := Scalar.xori v120 v121
  let c0_i32_53 : BitVec 32 := 0#32
  let v119 : BitVec 1 := Scalar.cmpi .ne v118 c0_i32_53
  let v123 : BitVec 1 := Scalar.andi v122 v119
  let v124 : BitVec 32 := Scalar.addi v118 v117
  let v125 : BitVec 32 := Scalar.select v123 v124 v118
  let c128_i32_57 : BitVec 32 := 128#32
  let v127 : BitVec 32 := Scalar.muli v125 c128_i32_57
  let v128 : BitVec 32 := Scalar.addi v126 v127
  let v129 : BitVec 32 := v128
  ![v115.toNat, 0, v129.toNat]
def k0_cond2 (k0_t1 : Fin k0_t1_loop.trips) : BitVec 1 :=
  let c2_i32_17 : BitVec 32 := 2#32
  let c0_i32_8 : BitVec 32 := 0#32
  let c1_i32 : BitVec 32 := 1#32
  let arg12 : BitVec 32 := Scf.iv c0_i32_8 c1_i32 k0_t1
  let v30 : BitVec 32 := Scalar.muli c2_i32_17 arg12
  let c0_i32_18 : BitVec 32 := 0#32
  let v31 : BitVec 32 := Scalar.addi v30 c0_i32_18
  let c2_i32_60 : BitVec 32 := 2#32
  let v134 : BitVec 32 := Scalar.addi v31 c2_i32_60
  let c104_i32 : BitVec 32 := 104#32
  let v135 : BitVec 1 := Scalar.cmpi .slt v134 c104_i32
  let v136 : BitVec 32 := Scalar.extui v135
  let c0_i32_61 : BitVec 32 := 0#32
  let v137 : BitVec 1 := Scalar.cmpi .ne v136 c0_i32_61
  v137

def k0_mult6 (i : grid0.Coords) (k0_t1 : Fin k0_t1_loop.trips) : BitVec 32 :=
  let c2_i32_17 : BitVec 32 := 2#32
  let c0_i32_8 : BitVec 32 := 0#32
  let c1_i32 : BitVec 32 := 1#32
  let arg12 : BitVec 32 := Scf.iv c0_i32_8 c1_i32 k0_t1
  let v30 : BitVec 32 := Scalar.muli c2_i32_17 arg12
  let c0_i32_18 : BitVec 32 := 0#32
  let v31 : BitVec 32 := Scalar.addi v30 c0_i32_18
  let c2_i32_118 : BitVec 32 := 2#32
  let v246 : BitVec 32 := Scalar.addi v31 c2_i32_118
  let c0_i32_120 : BitVec 32 := 0#32
  let v248 : BitVec 1 := Scalar.cmpi .sgt v246 c0_i32_120
  let v249 : BitVec 32 := Scalar.extui v248
  let c0_i32_121 : BitVec 32 := 0#32
  let v250 : BitVec 1 := Scalar.cmpi .slt v246 c0_i32_121
  let v251 : BitVec 32 := Scalar.extui v250
  let v252 : BitVec 32 := Scalar.subi v249 v251
  let c4_i32_119 : BitVec 32 := 4#32
  let c0_i32_122 : BitVec 32 := 0#32
  let v253 : BitVec 1 := Scalar.cmpi .sgt c4_i32_119 c0_i32_122
  let v254 : BitVec 32 := Scalar.extui v253
  let c0_i32_123 : BitVec 32 := 0#32
  let v255 : BitVec 1 := Scalar.cmpi .slt c4_i32_119 c0_i32_123
  let v256 : BitVec 32 := Scalar.extui v255
  let v257 : BitVec 32 := Scalar.subi v254 v256
  let v258 : BitVec 1 := Scalar.cmpi .ne v252 v257
  let v259 : BitVec 32 := Scalar.remsi v246 c4_i32_119
  let c0_i32_124 : BitVec 32 := 0#32
  let v260 : BitVec 1 := Scalar.cmpi .ne v259 c0_i32_124
  let v261 : BitVec 1 := Scalar.andi v258 v260
  let v247 : BitVec 32 := Scalar.divsi v246 c4_i32_119
  let c1_i32_125 : BitVec 32 := 1#32
  let v262 : BitVec 32 := Scalar.subi v247 c1_i32_125
  let v263 : BitVec 32 := Scalar.select v261 v262 v247
  let c16384_i32_132 : BitVec 32 := 16384#32
  let v274 : BitVec 32 := Scalar.muli v263 c16384_i32_132
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_133 : BitVec 32 := 512#32
  let v275 : BitVec 32 := Scalar.muli v1 c512_i32_133
  let v276 : BitVec 32 := Scalar.addi v274 v275
  let c4_i32_126 : BitVec 32 := 4#32
  let c0_i32_127 : BitVec 32 := 0#32
  let v264 : BitVec 1 := Scalar.cmpi .eq c4_i32_126 c0_i32_127
  let c1_i32_128 : BitVec 32 := 1#32
  let v265 : BitVec 32 := Scalar.select v264 c1_i32_128 c4_i32_126
  let v266 : BitVec 32 := Scalar.remsi v246 v265
  let c0_i32_130 : BitVec 32 := 0#32
  let v268 : BitVec 1 := Scalar.cmpi .slt v266 c0_i32_130
  let c0_i32_131 : BitVec 32 := 0#32
  let v269 : BitVec 1 := Scalar.cmpi .slt v265 c0_i32_131
  let v270 : BitVec 1 := Scalar.xori v268 v269
  let c0_i32_129 : BitVec 32 := 0#32
  let v267 : BitVec 1 := Scalar.cmpi .ne v266 c0_i32_129
  let v271 : BitVec 1 := Scalar.andi v270 v267
  let v272 : BitVec 32 := Scalar.addi v266 v265
  let v273 : BitVec 32 := Scalar.select v271 v272 v266
  let c128_i32_134 : BitVec 32 := 128#32
  let v277 : BitVec 32 := Scalar.muli v273 c128_i32_134
  let v278 : BitVec 32 := Scalar.addi v276 v277
  v278
def k0_off5 (i : grid0.Coords) (k0_t1 : Fin k0_t1_loop.trips) : Fin 2 → Nat :=
  let c2_i32_17 : BitVec 32 := 2#32
  let c0_i32_8 : BitVec 32 := 0#32
  let c1_i32 : BitVec 32 := 1#32
  let arg12 : BitVec 32 := Scf.iv c0_i32_8 c1_i32 k0_t1
  let v30 : BitVec 32 := Scalar.muli c2_i32_17 arg12
  let c0_i32_18 : BitVec 32 := 0#32
  let v31 : BitVec 32 := Scalar.addi v30 c0_i32_18
  let c2_i32_118 : BitVec 32 := 2#32
  let v246 : BitVec 32 := Scalar.addi v31 c2_i32_118
  let c0_i32_120 : BitVec 32 := 0#32
  let v248 : BitVec 1 := Scalar.cmpi .sgt v246 c0_i32_120
  let v249 : BitVec 32 := Scalar.extui v248
  let c0_i32_121 : BitVec 32 := 0#32
  let v250 : BitVec 1 := Scalar.cmpi .slt v246 c0_i32_121
  let v251 : BitVec 32 := Scalar.extui v250
  let v252 : BitVec 32 := Scalar.subi v249 v251
  let c4_i32_119 : BitVec 32 := 4#32
  let c0_i32_122 : BitVec 32 := 0#32
  let v253 : BitVec 1 := Scalar.cmpi .sgt c4_i32_119 c0_i32_122
  let v254 : BitVec 32 := Scalar.extui v253
  let c0_i32_123 : BitVec 32 := 0#32
  let v255 : BitVec 1 := Scalar.cmpi .slt c4_i32_119 c0_i32_123
  let v256 : BitVec 32 := Scalar.extui v255
  let v257 : BitVec 32 := Scalar.subi v254 v256
  let v258 : BitVec 1 := Scalar.cmpi .ne v252 v257
  let v259 : BitVec 32 := Scalar.remsi v246 c4_i32_119
  let c0_i32_124 : BitVec 32 := 0#32
  let v260 : BitVec 1 := Scalar.cmpi .ne v259 c0_i32_124
  let v261 : BitVec 1 := Scalar.andi v258 v260
  let v247 : BitVec 32 := Scalar.divsi v246 c4_i32_119
  let c1_i32_125 : BitVec 32 := 1#32
  let v262 : BitVec 32 := Scalar.subi v247 c1_i32_125
  let v263 : BitVec 32 := Scalar.select v261 v262 v247
  let c16384_i32_132 : BitVec 32 := 16384#32
  let v274 : BitVec 32 := Scalar.muli v263 c16384_i32_132
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_133 : BitVec 32 := 512#32
  let v275 : BitVec 32 := Scalar.muli v1 c512_i32_133
  let v276 : BitVec 32 := Scalar.addi v274 v275
  let c4_i32_126 : BitVec 32 := 4#32
  let c0_i32_127 : BitVec 32 := 0#32
  let v264 : BitVec 1 := Scalar.cmpi .eq c4_i32_126 c0_i32_127
  let c1_i32_128 : BitVec 32 := 1#32
  let v265 : BitVec 32 := Scalar.select v264 c1_i32_128 c4_i32_126
  let v266 : BitVec 32 := Scalar.remsi v246 v265
  let c0_i32_130 : BitVec 32 := 0#32
  let v268 : BitVec 1 := Scalar.cmpi .slt v266 c0_i32_130
  let c0_i32_131 : BitVec 32 := 0#32
  let v269 : BitVec 1 := Scalar.cmpi .slt v265 c0_i32_131
  let v270 : BitVec 1 := Scalar.xori v268 v269
  let c0_i32_129 : BitVec 32 := 0#32
  let v267 : BitVec 1 := Scalar.cmpi .ne v266 c0_i32_129
  let v271 : BitVec 1 := Scalar.andi v270 v267
  let v272 : BitVec 32 := Scalar.addi v266 v265
  let v273 : BitVec 32 := Scalar.select v271 v272 v266
  let c128_i32_134 : BitVec 32 := 128#32
  let v277 : BitVec 32 := Scalar.muli v273 c128_i32_134
  let v278 : BitVec 32 := Scalar.addi v276 v277
  let v279 : BitVec 32 := v278
  let c0_i32_135 : BitVec 32 := 0#32
  ![v279.toNat, 0]
def k0_mult7 (i : grid0.Coords) (k0_t1 : Fin k0_t1_loop.trips) : BitVec 32 :=
  let c2_i32_62 : BitVec 32 := 2#32
  let c0_i32_8 : BitVec 32 := 0#32
  let c1_i32 : BitVec 32 := 1#32
  let arg12 : BitVec 32 := Scf.iv c0_i32_8 c1_i32 k0_t1
  let v138 : BitVec 32 := Scalar.muli c2_i32_62 arg12
  let c1_i32_63 : BitVec 32 := 1#32
  let v139 : BitVec 32 := Scalar.addi v138 c1_i32_63
  let c0_i32_65 : BitVec 32 := 0#32
  let v141 : BitVec 1 := Scalar.cmpi .sgt v139 c0_i32_65
  let v142 : BitVec 32 := Scalar.extui v141
  let c0_i32_66 : BitVec 32 := 0#32
  let v143 : BitVec 1 := Scalar.cmpi .slt v139 c0_i32_66
  let v144 : BitVec 32 := Scalar.extui v143
  let v145 : BitVec 32 := Scalar.subi v142 v144
  let c4_i32_64 : BitVec 32 := 4#32
  let c0_i32_67 : BitVec 32 := 0#32
  let v146 : BitVec 1 := Scalar.cmpi .sgt c4_i32_64 c0_i32_67
  let v147 : BitVec 32 := Scalar.extui v146
  let c0_i32_68 : BitVec 32 := 0#32
  let v148 : BitVec 1 := Scalar.cmpi .slt c4_i32_64 c0_i32_68
  let v149 : BitVec 32 := Scalar.extui v148
  let v150 : BitVec 32 := Scalar.subi v147 v149
  let v151 : BitVec 1 := Scalar.cmpi .ne v145 v150
  let v152 : BitVec 32 := Scalar.remsi v139 c4_i32_64
  let c0_i32_69 : BitVec 32 := 0#32
  let v153 : BitVec 1 := Scalar.cmpi .ne v152 c0_i32_69
  let v154 : BitVec 1 := Scalar.andi v151 v153
  let v140 : BitVec 32 := Scalar.divsi v139 c4_i32_64
  let c1_i32_70 : BitVec 32 := 1#32
  let v155 : BitVec 32 := Scalar.subi v140 c1_i32_70
  let v156 : BitVec 32 := Scalar.select v154 v155 v140
  let c16384_i32_77 : BitVec 32 := 16384#32
  let v167 : BitVec 32 := Scalar.muli v156 c16384_i32_77
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_78 : BitVec 32 := 512#32
  let v168 : BitVec 32 := Scalar.muli v1 c512_i32_78
  let v169 : BitVec 32 := Scalar.addi v167 v168
  let c4_i32_71 : BitVec 32 := 4#32
  let c0_i32_72 : BitVec 32 := 0#32
  let v157 : BitVec 1 := Scalar.cmpi .eq c4_i32_71 c0_i32_72
  let c1_i32_73 : BitVec 32 := 1#32
  let v158 : BitVec 32 := Scalar.select v157 c1_i32_73 c4_i32_71
  let v159 : BitVec 32 := Scalar.remsi v139 v158
  let c0_i32_75 : BitVec 32 := 0#32
  let v161 : BitVec 1 := Scalar.cmpi .slt v159 c0_i32_75
  let c0_i32_76 : BitVec 32 := 0#32
  let v162 : BitVec 1 := Scalar.cmpi .slt v158 c0_i32_76
  let v163 : BitVec 1 := Scalar.xori v161 v162
  let c0_i32_74 : BitVec 32 := 0#32
  let v160 : BitVec 1 := Scalar.cmpi .ne v159 c0_i32_74
  let v164 : BitVec 1 := Scalar.andi v163 v160
  let v165 : BitVec 32 := Scalar.addi v159 v158
  let v166 : BitVec 32 := Scalar.select v164 v165 v159
  let c128_i32_79 : BitVec 32 := 128#32
  let v170 : BitVec 32 := Scalar.muli v166 c128_i32_79
  let v171 : BitVec 32 := Scalar.addi v169 v170
  v171
def k0_off6 (i : grid0.Coords) (k0_t1 : Fin k0_t1_loop.trips) : Fin 2 → Nat :=
  let c2_i32_62 : BitVec 32 := 2#32
  let c0_i32_8 : BitVec 32 := 0#32
  let c1_i32 : BitVec 32 := 1#32
  let arg12 : BitVec 32 := Scf.iv c0_i32_8 c1_i32 k0_t1
  let v138 : BitVec 32 := Scalar.muli c2_i32_62 arg12
  let c1_i32_63 : BitVec 32 := 1#32
  let v139 : BitVec 32 := Scalar.addi v138 c1_i32_63
  let c0_i32_65 : BitVec 32 := 0#32
  let v141 : BitVec 1 := Scalar.cmpi .sgt v139 c0_i32_65
  let v142 : BitVec 32 := Scalar.extui v141
  let c0_i32_66 : BitVec 32 := 0#32
  let v143 : BitVec 1 := Scalar.cmpi .slt v139 c0_i32_66
  let v144 : BitVec 32 := Scalar.extui v143
  let v145 : BitVec 32 := Scalar.subi v142 v144
  let c4_i32_64 : BitVec 32 := 4#32
  let c0_i32_67 : BitVec 32 := 0#32
  let v146 : BitVec 1 := Scalar.cmpi .sgt c4_i32_64 c0_i32_67
  let v147 : BitVec 32 := Scalar.extui v146
  let c0_i32_68 : BitVec 32 := 0#32
  let v148 : BitVec 1 := Scalar.cmpi .slt c4_i32_64 c0_i32_68
  let v149 : BitVec 32 := Scalar.extui v148
  let v150 : BitVec 32 := Scalar.subi v147 v149
  let v151 : BitVec 1 := Scalar.cmpi .ne v145 v150
  let v152 : BitVec 32 := Scalar.remsi v139 c4_i32_64
  let c0_i32_69 : BitVec 32 := 0#32
  let v153 : BitVec 1 := Scalar.cmpi .ne v152 c0_i32_69
  let v154 : BitVec 1 := Scalar.andi v151 v153
  let v140 : BitVec 32 := Scalar.divsi v139 c4_i32_64
  let c1_i32_70 : BitVec 32 := 1#32
  let v155 : BitVec 32 := Scalar.subi v140 c1_i32_70
  let v156 : BitVec 32 := Scalar.select v154 v155 v140
  let c16384_i32_77 : BitVec 32 := 16384#32
  let v167 : BitVec 32 := Scalar.muli v156 c16384_i32_77
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_78 : BitVec 32 := 512#32
  let v168 : BitVec 32 := Scalar.muli v1 c512_i32_78
  let v169 : BitVec 32 := Scalar.addi v167 v168
  let c4_i32_71 : BitVec 32 := 4#32
  let c0_i32_72 : BitVec 32 := 0#32
  let v157 : BitVec 1 := Scalar.cmpi .eq c4_i32_71 c0_i32_72
  let c1_i32_73 : BitVec 32 := 1#32
  let v158 : BitVec 32 := Scalar.select v157 c1_i32_73 c4_i32_71
  let v159 : BitVec 32 := Scalar.remsi v139 v158
  let c0_i32_75 : BitVec 32 := 0#32
  let v161 : BitVec 1 := Scalar.cmpi .slt v159 c0_i32_75
  let c0_i32_76 : BitVec 32 := 0#32
  let v162 : BitVec 1 := Scalar.cmpi .slt v158 c0_i32_76
  let v163 : BitVec 1 := Scalar.xori v161 v162
  let c0_i32_74 : BitVec 32 := 0#32
  let v160 : BitVec 1 := Scalar.cmpi .ne v159 c0_i32_74
  let v164 : BitVec 1 := Scalar.andi v163 v160
  let v165 : BitVec 32 := Scalar.addi v159 v158
  let v166 : BitVec 32 := Scalar.select v164 v165 v159
  let c128_i32_79 : BitVec 32 := 128#32
  let v170 : BitVec 32 := Scalar.muli v166 c128_i32_79
  let v171 : BitVec 32 := Scalar.addi v169 v170
  let v172 : BitVec 32 := v171
  let c0_i32_80 : BitVec 32 := 0#32
  ![v172.toNat, 0]
def k0_cond3 (k0_t1 : Fin k0_t1_loop.trips) : BitVec 1 :=
  let c2_i32_62 : BitVec 32 := 2#32
  let c0_i32_8 : BitVec 32 := 0#32
  let c1_i32 : BitVec 32 := 1#32
  let arg12 : BitVec 32 := Scf.iv c0_i32_8 c1_i32 k0_t1
  let v138 : BitVec 32 := Scalar.muli c2_i32_62 arg12
  let c1_i32_63 : BitVec 32 := 1#32
  let v139 : BitVec 32 := Scalar.addi v138 c1_i32_63
  let c2_i32_82 : BitVec 32 := 2#32
  let v175 : BitVec 1 := Scalar.cmpi .sge v139 c2_i32_82
  let v176 : BitVec 32 := Scalar.extui v175
  let c0_i32_83 : BitVec 32 := 0#32
  let v177 : BitVec 1 := Scalar.cmpi .ne v176 c0_i32_83
  v177

def k0_mult8 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_132 : BitVec 32 := 512#32
  let v274 : BitVec 32 := Scalar.muli v1 c512_i32_132
  let c2_i32_62 : BitVec 32 := 2#32
  let c0_i32_8 : BitVec 32 := 0#32
  let c1_i32 : BitVec 32 := 1#32
  let arg12 : BitVec 32 := Scf.iv c0_i32_8 c1_i32 k0_t1
  let v138 : BitVec 32 := Scalar.muli c2_i32_62 arg12
  let c1_i32_63 : BitVec 32 := 1#32
  let v139 : BitVec 32 := Scalar.addi v138 c1_i32_63
  let c2_i32_118 : BitVec 32 := 2#32
  let v246 : BitVec 32 := Scalar.subi v139 c2_i32_118
  let c4_i32_126 : BitVec 32 := 4#32
  let c0_i32_127 : BitVec 32 := 0#32
  let v264 : BitVec 1 := Scalar.cmpi .eq c4_i32_126 c0_i32_127
  let c1_i32_128 : BitVec 32 := 1#32
  let v265 : BitVec 32 := Scalar.select v264 c1_i32_128 c4_i32_126
  let v266 : BitVec 32 := Scalar.remsi v246 v265
  let c0_i32_130 : BitVec 32 := 0#32
  let v268 : BitVec 1 := Scalar.cmpi .slt v266 c0_i32_130
  let c0_i32_131 : BitVec 32 := 0#32
  let v269 : BitVec 1 := Scalar.cmpi .slt v265 c0_i32_131
  let v270 : BitVec 1 := Scalar.xori v268 v269
  let c0_i32_129 : BitVec 32 := 0#32
  let v267 : BitVec 1 := Scalar.cmpi .ne v266 c0_i32_129
  let v271 : BitVec 1 := Scalar.andi v270 v267
  let v272 : BitVec 32 := Scalar.addi v266 v265
  let v273 : BitVec 32 := Scalar.select v271 v272 v266
  let c128_i32_133 : BitVec 32 := 128#32
  let v275 : BitVec 32 := Scalar.muli v273 c128_i32_133
  let v276 : BitVec 32 := Scalar.addi v274 v275
  v276
def k0_off7 (i : grid0.Coords) (k0_t1 : Fin k0_t1_loop.trips) : Fin 3 → Nat :=
  let c2_i32_62 : BitVec 32 := 2#32
  let c0_i32_8 : BitVec 32 := 0#32
  let c1_i32 : BitVec 32 := 1#32
  let arg12 : BitVec 32 := Scf.iv c0_i32_8 c1_i32 k0_t1
  let v138 : BitVec 32 := Scalar.muli c2_i32_62 arg12
  let c1_i32_63 : BitVec 32 := 1#32
  let v139 : BitVec 32 := Scalar.addi v138 c1_i32_63
  let c2_i32_118 : BitVec 32 := 2#32
  let v246 : BitVec 32 := Scalar.subi v139 c2_i32_118
  let c0_i32_120 : BitVec 32 := 0#32
  let v248 : BitVec 1 := Scalar.cmpi .sgt v246 c0_i32_120
  let v249 : BitVec 32 := Scalar.extui v248
  let c0_i32_121 : BitVec 32 := 0#32
  let v250 : BitVec 1 := Scalar.cmpi .slt v246 c0_i32_121
  let v251 : BitVec 32 := Scalar.extui v250
  let v252 : BitVec 32 := Scalar.subi v249 v251
  let c4_i32_119 : BitVec 32 := 4#32
  let c0_i32_122 : BitVec 32 := 0#32
  let v253 : BitVec 1 := Scalar.cmpi .sgt c4_i32_119 c0_i32_122
  let v254 : BitVec 32 := Scalar.extui v253
  let c0_i32_123 : BitVec 32 := 0#32
  let v255 : BitVec 1 := Scalar.cmpi .slt c4_i32_119 c0_i32_123
  let v256 : BitVec 32 := Scalar.extui v255
  let v257 : BitVec 32 := Scalar.subi v254 v256
  let v258 : BitVec 1 := Scalar.cmpi .ne v252 v257
  let v259 : BitVec 32 := Scalar.remsi v246 c4_i32_119
  let c0_i32_124 : BitVec 32 := 0#32
  let v260 : BitVec 1 := Scalar.cmpi .ne v259 c0_i32_124
  let v261 : BitVec 1 := Scalar.andi v258 v260
  let v247 : BitVec 32 := Scalar.divsi v246 c4_i32_119
  let c1_i32_125 : BitVec 32 := 1#32
  let v262 : BitVec 32 := Scalar.subi v247 c1_i32_125
  let v263 : BitVec 32 := Scalar.select v261 v262 v247
  let c0_i32_134 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_132 : BitVec 32 := 512#32
  let v274 : BitVec 32 := Scalar.muli v1 c512_i32_132
  let c4_i32_126 : BitVec 32 := 4#32
  let c0_i32_127 : BitVec 32 := 0#32
  let v264 : BitVec 1 := Scalar.cmpi .eq c4_i32_126 c0_i32_127
  let c1_i32_128 : BitVec 32 := 1#32
  let v265 : BitVec 32 := Scalar.select v264 c1_i32_128 c4_i32_126
  let v266 : BitVec 32 := Scalar.remsi v246 v265
  let c0_i32_130 : BitVec 32 := 0#32
  let v268 : BitVec 1 := Scalar.cmpi .slt v266 c0_i32_130
  let c0_i32_131 : BitVec 32 := 0#32
  let v269 : BitVec 1 := Scalar.cmpi .slt v265 c0_i32_131
  let v270 : BitVec 1 := Scalar.xori v268 v269
  let c0_i32_129 : BitVec 32 := 0#32
  let v267 : BitVec 1 := Scalar.cmpi .ne v266 c0_i32_129
  let v271 : BitVec 1 := Scalar.andi v270 v267
  let v272 : BitVec 32 := Scalar.addi v266 v265
  let v273 : BitVec 32 := Scalar.select v271 v272 v266
  let c128_i32_133 : BitVec 32 := 128#32
  let v275 : BitVec 32 := Scalar.muli v273 c128_i32_133
  let v276 : BitVec 32 := Scalar.addi v274 v275
  let v277 : BitVec 32 := v276
  ![v263.toNat, 0, v277.toNat]

def k0_chk5 (v179 : IVec S16 32) (v181 : IVec S16 32) (v183 : IVec S16 32) (v185 : IVec S16 32) (v187 : IVec S16 32) (v189 : IVec S16 32) (v191 : IVec S16 32) (v193 : IVec S16 32) (v194 : IVec S16 32) : Prop :=
  (∀ a x, ((![v179, v194] : Fin 2 → IVec S16 32) a x).toNat < S128x64.size a) ∧
  (∀ a x, ((![v181, v194] : Fin 2 → IVec S16 32) a x).toNat < S128x64.size a) ∧
  (∀ a x, ((![v183, v194] : Fin 2 → IVec S16 32) a x).toNat < S128x64.size a) ∧
  (∀ a x, ((![v185, v194] : Fin 2 → IVec S16 32) a x).toNat < S128x64.size a) ∧
  (∀ a x, ((![v187, v194] : Fin 2 → IVec S16 32) a x).toNat < S128x64.size a) ∧
  (∀ a x, ((![v189, v194] : Fin 2 → IVec S16 32) a x).toNat < S128x64.size a) ∧
  (∀ a x, ((![v191, v194] : Fin 2 → IVec S16 32) a x).toNat < S128x64.size a) ∧
  (∀ a x, ((![v193, v194] : Fin 2 → IVec S16 32) a x).toNat < S128x64.size a)
theorem k0_idx33_inb : ∀ (v179 : IVec S16 32) (v181 : IVec S16 32) (v183 : IVec S16 32) (v185 : IVec S16 32) (v187 : IVec S16 32) (v189 : IVec S16 32) (v191 : IVec S16 32) (v193 : IVec S16 32) (v194 : IVec S16 32) (k0_hw5 : k0_chk5 v179 v181 v183 v185 v187 v189 v191 v193 v194), ∀ a x, ((![v179, v194] : Fin 2 → IVec S16 32) a x).toNat < S128x64.size a := fun v179 v181 v183 v185 v187 v189 v191 v193 v194 k0_hw5 => k0_hw5.1
theorem k0_idx34_inb : ∀ (v179 : IVec S16 32) (v181 : IVec S16 32) (v183 : IVec S16 32) (v185 : IVec S16 32) (v187 : IVec S16 32) (v189 : IVec S16 32) (v191 : IVec S16 32) (v193 : IVec S16 32) (v194 : IVec S16 32) (k0_hw5 : k0_chk5 v179 v181 v183 v185 v187 v189 v191 v193 v194), ∀ a x, ((![v181, v194] : Fin 2 → IVec S16 32) a x).toNat < S128x64.size a := fun v179 v181 v183 v185 v187 v189 v191 v193 v194 k0_hw5 => k0_hw5.2.1
theorem k0_idx35_inb : ∀ (v179 : IVec S16 32) (v181 : IVec S16 32) (v183 : IVec S16 32) (v185 : IVec S16 32) (v187 : IVec S16 32) (v189 : IVec S16 32) (v191 : IVec S16 32) (v193 : IVec S16 32) (v194 : IVec S16 32) (k0_hw5 : k0_chk5 v179 v181 v183 v185 v187 v189 v191 v193 v194), ∀ a x, ((![v183, v194] : Fin 2 → IVec S16 32) a x).toNat < S128x64.size a := fun v179 v181 v183 v185 v187 v189 v191 v193 v194 k0_hw5 => k0_hw5.2.2.1
theorem k0_idx36_inb : ∀ (v179 : IVec S16 32) (v181 : IVec S16 32) (v183 : IVec S16 32) (v185 : IVec S16 32) (v187 : IVec S16 32) (v189 : IVec S16 32) (v191 : IVec S16 32) (v193 : IVec S16 32) (v194 : IVec S16 32) (k0_hw5 : k0_chk5 v179 v181 v183 v185 v187 v189 v191 v193 v194), ∀ a x, ((![v185, v194] : Fin 2 → IVec S16 32) a x).toNat < S128x64.size a := fun v179 v181 v183 v185 v187 v189 v191 v193 v194 k0_hw5 => k0_hw5.2.2.2.1
theorem k0_idx37_inb : ∀ (v179 : IVec S16 32) (v181 : IVec S16 32) (v183 : IVec S16 32) (v185 : IVec S16 32) (v187 : IVec S16 32) (v189 : IVec S16 32) (v191 : IVec S16 32) (v193 : IVec S16 32) (v194 : IVec S16 32) (k0_hw5 : k0_chk5 v179 v181 v183 v185 v187 v189 v191 v193 v194), ∀ a x, ((![v187, v194] : Fin 2 → IVec S16 32) a x).toNat < S128x64.size a := fun v179 v181 v183 v185 v187 v189 v191 v193 v194 k0_hw5 => k0_hw5.2.2.2.2.1
theorem k0_idx38_inb : ∀ (v179 : IVec S16 32) (v181 : IVec S16 32) (v183 : IVec S16 32) (v185 : IVec S16 32) (v187 : IVec S16 32) (v189 : IVec S16 32) (v191 : IVec S16 32) (v193 : IVec S16 32) (v194 : IVec S16 32) (k0_hw5 : k0_chk5 v179 v181 v183 v185 v187 v189 v191 v193 v194), ∀ a x, ((![v189, v194] : Fin 2 → IVec S16 32) a x).toNat < S128x64.size a := fun v179 v181 v183 v185 v187 v189 v191 v193 v194 k0_hw5 => k0_hw5.2.2.2.2.2.1
theorem k0_idx39_inb : ∀ (v179 : IVec S16 32) (v181 : IVec S16 32) (v183 : IVec S16 32) (v185 : IVec S16 32) (v187 : IVec S16 32) (v189 : IVec S16 32) (v191 : IVec S16 32) (v193 : IVec S16 32) (v194 : IVec S16 32) (k0_hw5 : k0_chk5 v179 v181 v183 v185 v187 v189 v191 v193 v194), ∀ a x, ((![v191, v194] : Fin 2 → IVec S16 32) a x).toNat < S128x64.size a := fun v179 v181 v183 v185 v187 v189 v191 v193 v194 k0_hw5 => k0_hw5.2.2.2.2.2.2.1
theorem k0_idx40_inb : ∀ (v179 : IVec S16 32) (v181 : IVec S16 32) (v183 : IVec S16 32) (v185 : IVec S16 32) (v187 : IVec S16 32) (v189 : IVec S16 32) (v191 : IVec S16 32) (v193 : IVec S16 32) (v194 : IVec S16 32) (k0_hw5 : k0_chk5 v179 v181 v183 v185 v187 v189 v191 v193 v194), ∀ a x, ((![v193, v194] : Fin 2 → IVec S16 32) a x).toNat < S128x64.size a := fun v179 v181 v183 v185 v187 v189 v191 v193 v194 k0_hw5 => k0_hw5.2.2.2.2.2.2.2
@[reducible] def k0_t3_loop : Scf.Loop 32 :=
  let c1_i32_94 : BitVec 32 := 1#32
  let c63_i32_95 : BitVec 32 := 63#32
  let v205 : BitVec 32 := Scalar.addi c1_i32_94 c63_i32_95
  let c1_i32_96 : BitVec 32 := 1#32
  ⟨c1_i32_94, v205, c1_i32_96⟩

def k0_chk6 (v179 : IVec S16 32) (v181 : IVec S16 32) (v183 : IVec S16 32) (v185 : IVec S16 32) (v187 : IVec S16 32) (v189 : IVec S16 32) (v191 : IVec S16 32) (v193 : IVec S16 32) (arg14 : IVec S16 32) : Prop :=
  (∀ a x, ((![v179, arg14] : Fin 2 → IVec S16 32) a x).toNat < S128x64.size a) ∧
  (∀ a x, ((![v181, arg14] : Fin 2 → IVec S16 32) a x).toNat < S128x64.size a) ∧
  (∀ a x, ((![v183, arg14] : Fin 2 → IVec S16 32) a x).toNat < S128x64.size a) ∧
  (∀ a x, ((![v185, arg14] : Fin 2 → IVec S16 32) a x).toNat < S128x64.size a) ∧
  (∀ a x, ((![v187, arg14] : Fin 2 → IVec S16 32) a x).toNat < S128x64.size a) ∧
  (∀ a x, ((![v189, arg14] : Fin 2 → IVec S16 32) a x).toNat < S128x64.size a) ∧
  (∀ a x, ((![v191, arg14] : Fin 2 → IVec S16 32) a x).toNat < S128x64.size a) ∧
  (∀ a x, ((![v193, arg14] : Fin 2 → IVec S16 32) a x).toNat < S128x64.size a)
theorem k0_idx41_inb : ∀ (v179 : IVec S16 32) (v181 : IVec S16 32) (v183 : IVec S16 32) (v185 : IVec S16 32) (v187 : IVec S16 32) (v189 : IVec S16 32) (v191 : IVec S16 32) (v193 : IVec S16 32) (arg14 : IVec S16 32) (k0_hw6 : k0_chk6 v179 v181 v183 v185 v187 v189 v191 v193 arg14), ∀ a x, ((![v179, arg14] : Fin 2 → IVec S16 32) a x).toNat < S128x64.size a := fun v179 v181 v183 v185 v187 v189 v191 v193 arg14 k0_hw6 => k0_hw6.1
theorem k0_idx42_inb : ∀ (v179 : IVec S16 32) (v181 : IVec S16 32) (v183 : IVec S16 32) (v185 : IVec S16 32) (v187 : IVec S16 32) (v189 : IVec S16 32) (v191 : IVec S16 32) (v193 : IVec S16 32) (arg14 : IVec S16 32) (k0_hw6 : k0_chk6 v179 v181 v183 v185 v187 v189 v191 v193 arg14), ∀ a x, ((![v181, arg14] : Fin 2 → IVec S16 32) a x).toNat < S128x64.size a := fun v179 v181 v183 v185 v187 v189 v191 v193 arg14 k0_hw6 => k0_hw6.2.1
theorem k0_idx43_inb : ∀ (v179 : IVec S16 32) (v181 : IVec S16 32) (v183 : IVec S16 32) (v185 : IVec S16 32) (v187 : IVec S16 32) (v189 : IVec S16 32) (v191 : IVec S16 32) (v193 : IVec S16 32) (arg14 : IVec S16 32) (k0_hw6 : k0_chk6 v179 v181 v183 v185 v187 v189 v191 v193 arg14), ∀ a x, ((![v183, arg14] : Fin 2 → IVec S16 32) a x).toNat < S128x64.size a := fun v179 v181 v183 v185 v187 v189 v191 v193 arg14 k0_hw6 => k0_hw6.2.2.1
theorem k0_idx44_inb : ∀ (v179 : IVec S16 32) (v181 : IVec S16 32) (v183 : IVec S16 32) (v185 : IVec S16 32) (v187 : IVec S16 32) (v189 : IVec S16 32) (v191 : IVec S16 32) (v193 : IVec S16 32) (arg14 : IVec S16 32) (k0_hw6 : k0_chk6 v179 v181 v183 v185 v187 v189 v191 v193 arg14), ∀ a x, ((![v185, arg14] : Fin 2 → IVec S16 32) a x).toNat < S128x64.size a := fun v179 v181 v183 v185 v187 v189 v191 v193 arg14 k0_hw6 => k0_hw6.2.2.2.1
theorem k0_idx45_inb : ∀ (v179 : IVec S16 32) (v181 : IVec S16 32) (v183 : IVec S16 32) (v185 : IVec S16 32) (v187 : IVec S16 32) (v189 : IVec S16 32) (v191 : IVec S16 32) (v193 : IVec S16 32) (arg14 : IVec S16 32) (k0_hw6 : k0_chk6 v179 v181 v183 v185 v187 v189 v191 v193 arg14), ∀ a x, ((![v187, arg14] : Fin 2 → IVec S16 32) a x).toNat < S128x64.size a := fun v179 v181 v183 v185 v187 v189 v191 v193 arg14 k0_hw6 => k0_hw6.2.2.2.2.1
theorem k0_idx46_inb : ∀ (v179 : IVec S16 32) (v181 : IVec S16 32) (v183 : IVec S16 32) (v185 : IVec S16 32) (v187 : IVec S16 32) (v189 : IVec S16 32) (v191 : IVec S16 32) (v193 : IVec S16 32) (arg14 : IVec S16 32) (k0_hw6 : k0_chk6 v179 v181 v183 v185 v187 v189 v191 v193 arg14), ∀ a x, ((![v189, arg14] : Fin 2 → IVec S16 32) a x).toNat < S128x64.size a := fun v179 v181 v183 v185 v187 v189 v191 v193 arg14 k0_hw6 => k0_hw6.2.2.2.2.2.1
theorem k0_idx47_inb : ∀ (v179 : IVec S16 32) (v181 : IVec S16 32) (v183 : IVec S16 32) (v185 : IVec S16 32) (v187 : IVec S16 32) (v189 : IVec S16 32) (v191 : IVec S16 32) (v193 : IVec S16 32) (arg14 : IVec S16 32) (k0_hw6 : k0_chk6 v179 v181 v183 v185 v187 v189 v191 v193 arg14), ∀ a x, ((![v191, arg14] : Fin 2 → IVec S16 32) a x).toNat < S128x64.size a := fun v179 v181 v183 v185 v187 v189 v191 v193 arg14 k0_hw6 => k0_hw6.2.2.2.2.2.2.1
theorem k0_idx48_inb : ∀ (v179 : IVec S16 32) (v181 : IVec S16 32) (v183 : IVec S16 32) (v185 : IVec S16 32) (v187 : IVec S16 32) (v189 : IVec S16 32) (v191 : IVec S16 32) (v193 : IVec S16 32) (arg14 : IVec S16 32) (k0_hw6 : k0_chk6 v179 v181 v183 v185 v187 v189 v191 v193 arg14), ∀ a x, ((![v193, arg14] : Fin 2 → IVec S16 32) a x).toNat < S128x64.size a := fun v179 v181 v183 v185 v187 v189 v191 v193 arg14 k0_hw6 => k0_hw6.2.2.2.2.2.2.2

def k0_chk7 (v179 : IVec S16 32) (v181 : IVec S16 32) (v183 : IVec S16 32) (v185 : IVec S16 32) (v187 : IVec S16 32) (v189 : IVec S16 32) (v191 : IVec S16 32) (v193 : IVec S16 32) (arg15 : IVec S16 32) : Prop :=
  (∀ a x, ((![arg15, v179] : Fin 2 → IVec S16 32) a x).toNat < S64x128.size a) ∧
  (∀ a x, ((![arg15, v181] : Fin 2 → IVec S16 32) a x).toNat < S64x128.size a) ∧
  (∀ a x, ((![arg15, v183] : Fin 2 → IVec S16 32) a x).toNat < S64x128.size a) ∧
  (∀ a x, ((![arg15, v185] : Fin 2 → IVec S16 32) a x).toNat < S64x128.size a) ∧
  (∀ a x, ((![arg15, v187] : Fin 2 → IVec S16 32) a x).toNat < S64x128.size a) ∧
  (∀ a x, ((![arg15, v189] : Fin 2 → IVec S16 32) a x).toNat < S64x128.size a) ∧
  (∀ a x, ((![arg15, v191] : Fin 2 → IVec S16 32) a x).toNat < S64x128.size a) ∧
  (∀ a x, ((![arg15, v193] : Fin 2 → IVec S16 32) a x).toNat < S64x128.size a)
theorem k0_idx49_inb : ∀ (v179 : IVec S16 32) (v181 : IVec S16 32) (v183 : IVec S16 32) (v185 : IVec S16 32) (v187 : IVec S16 32) (v189 : IVec S16 32) (v191 : IVec S16 32) (v193 : IVec S16 32) (arg15 : IVec S16 32) (k0_hw7 : k0_chk7 v179 v181 v183 v185 v187 v189 v191 v193 arg15), ∀ a x, ((![arg15, v179] : Fin 2 → IVec S16 32) a x).toNat < S64x128.size a := fun v179 v181 v183 v185 v187 v189 v191 v193 arg15 k0_hw7 => k0_hw7.1
theorem k0_idx50_inb : ∀ (v179 : IVec S16 32) (v181 : IVec S16 32) (v183 : IVec S16 32) (v185 : IVec S16 32) (v187 : IVec S16 32) (v189 : IVec S16 32) (v191 : IVec S16 32) (v193 : IVec S16 32) (arg15 : IVec S16 32) (k0_hw7 : k0_chk7 v179 v181 v183 v185 v187 v189 v191 v193 arg15), ∀ a x, ((![arg15, v181] : Fin 2 → IVec S16 32) a x).toNat < S64x128.size a := fun v179 v181 v183 v185 v187 v189 v191 v193 arg15 k0_hw7 => k0_hw7.2.1
theorem k0_idx51_inb : ∀ (v179 : IVec S16 32) (v181 : IVec S16 32) (v183 : IVec S16 32) (v185 : IVec S16 32) (v187 : IVec S16 32) (v189 : IVec S16 32) (v191 : IVec S16 32) (v193 : IVec S16 32) (arg15 : IVec S16 32) (k0_hw7 : k0_chk7 v179 v181 v183 v185 v187 v189 v191 v193 arg15), ∀ a x, ((![arg15, v183] : Fin 2 → IVec S16 32) a x).toNat < S64x128.size a := fun v179 v181 v183 v185 v187 v189 v191 v193 arg15 k0_hw7 => k0_hw7.2.2.1
theorem k0_idx52_inb : ∀ (v179 : IVec S16 32) (v181 : IVec S16 32) (v183 : IVec S16 32) (v185 : IVec S16 32) (v187 : IVec S16 32) (v189 : IVec S16 32) (v191 : IVec S16 32) (v193 : IVec S16 32) (arg15 : IVec S16 32) (k0_hw7 : k0_chk7 v179 v181 v183 v185 v187 v189 v191 v193 arg15), ∀ a x, ((![arg15, v185] : Fin 2 → IVec S16 32) a x).toNat < S64x128.size a := fun v179 v181 v183 v185 v187 v189 v191 v193 arg15 k0_hw7 => k0_hw7.2.2.2.1
theorem k0_idx53_inb : ∀ (v179 : IVec S16 32) (v181 : IVec S16 32) (v183 : IVec S16 32) (v185 : IVec S16 32) (v187 : IVec S16 32) (v189 : IVec S16 32) (v191 : IVec S16 32) (v193 : IVec S16 32) (arg15 : IVec S16 32) (k0_hw7 : k0_chk7 v179 v181 v183 v185 v187 v189 v191 v193 arg15), ∀ a x, ((![arg15, v187] : Fin 2 → IVec S16 32) a x).toNat < S64x128.size a := fun v179 v181 v183 v185 v187 v189 v191 v193 arg15 k0_hw7 => k0_hw7.2.2.2.2.1
theorem k0_idx54_inb : ∀ (v179 : IVec S16 32) (v181 : IVec S16 32) (v183 : IVec S16 32) (v185 : IVec S16 32) (v187 : IVec S16 32) (v189 : IVec S16 32) (v191 : IVec S16 32) (v193 : IVec S16 32) (arg15 : IVec S16 32) (k0_hw7 : k0_chk7 v179 v181 v183 v185 v187 v189 v191 v193 arg15), ∀ a x, ((![arg15, v189] : Fin 2 → IVec S16 32) a x).toNat < S64x128.size a := fun v179 v181 v183 v185 v187 v189 v191 v193 arg15 k0_hw7 => k0_hw7.2.2.2.2.2.1
theorem k0_idx55_inb : ∀ (v179 : IVec S16 32) (v181 : IVec S16 32) (v183 : IVec S16 32) (v185 : IVec S16 32) (v187 : IVec S16 32) (v189 : IVec S16 32) (v191 : IVec S16 32) (v193 : IVec S16 32) (arg15 : IVec S16 32) (k0_hw7 : k0_chk7 v179 v181 v183 v185 v187 v189 v191 v193 arg15), ∀ a x, ((![arg15, v191] : Fin 2 → IVec S16 32) a x).toNat < S64x128.size a := fun v179 v181 v183 v185 v187 v189 v191 v193 arg15 k0_hw7 => k0_hw7.2.2.2.2.2.2.1
theorem k0_idx56_inb : ∀ (v179 : IVec S16 32) (v181 : IVec S16 32) (v183 : IVec S16 32) (v185 : IVec S16 32) (v187 : IVec S16 32) (v189 : IVec S16 32) (v191 : IVec S16 32) (v193 : IVec S16 32) (arg15 : IVec S16 32) (k0_hw7 : k0_chk7 v179 v181 v183 v185 v187 v189 v191 v193 arg15), ∀ a x, ((![arg15, v193] : Fin 2 → IVec S16 32) a x).toNat < S64x128.size a := fun v179 v181 v183 v185 v187 v189 v191 v193 arg15 k0_hw7 => k0_hw7.2.2.2.2.2.2.2

def k0_chk8 (v179 : IVec S16 32) (v181 : IVec S16 32) (v183 : IVec S16 32) (v185 : IVec S16 32) (v187 : IVec S16 32) (v189 : IVec S16 32) (v191 : IVec S16 32) (v193 : IVec S16 32) (v206_1 : IVec S16 32) : Prop :=
  (∀ a x, ((![v206_1, v179] : Fin 2 → IVec S16 32) a x).toNat < S64x128.size a) ∧
  (∀ a x, ((![v206_1, v181] : Fin 2 → IVec S16 32) a x).toNat < S64x128.size a) ∧
  (∀ a x, ((![v206_1, v183] : Fin 2 → IVec S16 32) a x).toNat < S64x128.size a) ∧
  (∀ a x, ((![v206_1, v185] : Fin 2 → IVec S16 32) a x).toNat < S64x128.size a) ∧
  (∀ a x, ((![v206_1, v187] : Fin 2 → IVec S16 32) a x).toNat < S64x128.size a) ∧
  (∀ a x, ((![v206_1, v189] : Fin 2 → IVec S16 32) a x).toNat < S64x128.size a) ∧
  (∀ a x, ((![v206_1, v191] : Fin 2 → IVec S16 32) a x).toNat < S64x128.size a) ∧
  (∀ a x, ((![v206_1, v193] : Fin 2 → IVec S16 32) a x).toNat < S64x128.size a)
theorem k0_idx57_inb : ∀ (v179 : IVec S16 32) (v181 : IVec S16 32) (v183 : IVec S16 32) (v185 : IVec S16 32) (v187 : IVec S16 32) (v189 : IVec S16 32) (v191 : IVec S16 32) (v193 : IVec S16 32) (v206_1 : IVec S16 32) (k0_hw8 : k0_chk8 v179 v181 v183 v185 v187 v189 v191 v193 v206_1), ∀ a x, ((![v206_1, v179] : Fin 2 → IVec S16 32) a x).toNat < S64x128.size a := fun v179 v181 v183 v185 v187 v189 v191 v193 v206_1 k0_hw8 => k0_hw8.1
theorem k0_idx58_inb : ∀ (v179 : IVec S16 32) (v181 : IVec S16 32) (v183 : IVec S16 32) (v185 : IVec S16 32) (v187 : IVec S16 32) (v189 : IVec S16 32) (v191 : IVec S16 32) (v193 : IVec S16 32) (v206_1 : IVec S16 32) (k0_hw8 : k0_chk8 v179 v181 v183 v185 v187 v189 v191 v193 v206_1), ∀ a x, ((![v206_1, v181] : Fin 2 → IVec S16 32) a x).toNat < S64x128.size a := fun v179 v181 v183 v185 v187 v189 v191 v193 v206_1 k0_hw8 => k0_hw8.2.1
theorem k0_idx59_inb : ∀ (v179 : IVec S16 32) (v181 : IVec S16 32) (v183 : IVec S16 32) (v185 : IVec S16 32) (v187 : IVec S16 32) (v189 : IVec S16 32) (v191 : IVec S16 32) (v193 : IVec S16 32) (v206_1 : IVec S16 32) (k0_hw8 : k0_chk8 v179 v181 v183 v185 v187 v189 v191 v193 v206_1), ∀ a x, ((![v206_1, v183] : Fin 2 → IVec S16 32) a x).toNat < S64x128.size a := fun v179 v181 v183 v185 v187 v189 v191 v193 v206_1 k0_hw8 => k0_hw8.2.2.1
theorem k0_idx60_inb : ∀ (v179 : IVec S16 32) (v181 : IVec S16 32) (v183 : IVec S16 32) (v185 : IVec S16 32) (v187 : IVec S16 32) (v189 : IVec S16 32) (v191 : IVec S16 32) (v193 : IVec S16 32) (v206_1 : IVec S16 32) (k0_hw8 : k0_chk8 v179 v181 v183 v185 v187 v189 v191 v193 v206_1), ∀ a x, ((![v206_1, v185] : Fin 2 → IVec S16 32) a x).toNat < S64x128.size a := fun v179 v181 v183 v185 v187 v189 v191 v193 v206_1 k0_hw8 => k0_hw8.2.2.2.1
theorem k0_idx61_inb : ∀ (v179 : IVec S16 32) (v181 : IVec S16 32) (v183 : IVec S16 32) (v185 : IVec S16 32) (v187 : IVec S16 32) (v189 : IVec S16 32) (v191 : IVec S16 32) (v193 : IVec S16 32) (v206_1 : IVec S16 32) (k0_hw8 : k0_chk8 v179 v181 v183 v185 v187 v189 v191 v193 v206_1), ∀ a x, ((![v206_1, v187] : Fin 2 → IVec S16 32) a x).toNat < S64x128.size a := fun v179 v181 v183 v185 v187 v189 v191 v193 v206_1 k0_hw8 => k0_hw8.2.2.2.2.1
theorem k0_idx62_inb : ∀ (v179 : IVec S16 32) (v181 : IVec S16 32) (v183 : IVec S16 32) (v185 : IVec S16 32) (v187 : IVec S16 32) (v189 : IVec S16 32) (v191 : IVec S16 32) (v193 : IVec S16 32) (v206_1 : IVec S16 32) (k0_hw8 : k0_chk8 v179 v181 v183 v185 v187 v189 v191 v193 v206_1), ∀ a x, ((![v206_1, v189] : Fin 2 → IVec S16 32) a x).toNat < S64x128.size a := fun v179 v181 v183 v185 v187 v189 v191 v193 v206_1 k0_hw8 => k0_hw8.2.2.2.2.2.1
theorem k0_idx63_inb : ∀ (v179 : IVec S16 32) (v181 : IVec S16 32) (v183 : IVec S16 32) (v185 : IVec S16 32) (v187 : IVec S16 32) (v189 : IVec S16 32) (v191 : IVec S16 32) (v193 : IVec S16 32) (v206_1 : IVec S16 32) (k0_hw8 : k0_chk8 v179 v181 v183 v185 v187 v189 v191 v193 v206_1), ∀ a x, ((![v206_1, v191] : Fin 2 → IVec S16 32) a x).toNat < S64x128.size a := fun v179 v181 v183 v185 v187 v189 v191 v193 v206_1 k0_hw8 => k0_hw8.2.2.2.2.2.2.1
theorem k0_idx64_inb : ∀ (v179 : IVec S16 32) (v181 : IVec S16 32) (v183 : IVec S16 32) (v185 : IVec S16 32) (v187 : IVec S16 32) (v189 : IVec S16 32) (v191 : IVec S16 32) (v193 : IVec S16 32) (v206_1 : IVec S16 32) (k0_hw8 : k0_chk8 v179 v181 v183 v185 v187 v189 v191 v193 v206_1), ∀ a x, ((![v206_1, v193] : Fin 2 → IVec S16 32) a x).toNat < S64x128.size a := fun v179 v181 v183 v185 v187 v189 v191 v193 v206_1 k0_hw8 => k0_hw8.2.2.2.2.2.2.2
def k0_mult9 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_111 : BitVec 32 := 512#32
  let v234 : BitVec 32 := Scalar.muli v1 c512_i32_111
  let c2_i32_62 : BitVec 32 := 2#32
  let c0_i32_8 : BitVec 32 := 0#32
  let c1_i32 : BitVec 32 := 1#32
  let arg12 : BitVec 32 := Scf.iv c0_i32_8 c1_i32 k0_t1
  let v138 : BitVec 32 := Scalar.muli c2_i32_62 arg12
  let c1_i32_63 : BitVec 32 := 1#32
  let v139 : BitVec 32 := Scalar.addi v138 c1_i32_63
  let c4_i32_105 : BitVec 32 := 4#32
  let c0_i32_106 : BitVec 32 := 0#32
  let v224 : BitVec 1 := Scalar.cmpi .eq c4_i32_105 c0_i32_106
  let c1_i32_107 : BitVec 32 := 1#32
  let v225 : BitVec 32 := Scalar.select v224 c1_i32_107 c4_i32_105
  let v226 : BitVec 32 := Scalar.remsi v139 v225
  let c0_i32_109 : BitVec 32 := 0#32
  let v228 : BitVec 1 := Scalar.cmpi .slt v226 c0_i32_109
  let c0_i32_110 : BitVec 32 := 0#32
  let v229 : BitVec 1 := Scalar.cmpi .slt v225 c0_i32_110
  let v230 : BitVec 1 := Scalar.xori v228 v229
  let c0_i32_108 : BitVec 32 := 0#32
  let v227 : BitVec 1 := Scalar.cmpi .ne v226 c0_i32_108
  let v231 : BitVec 1 := Scalar.andi v230 v227
  let v232 : BitVec 32 := Scalar.addi v226 v225
  let v233 : BitVec 32 := Scalar.select v231 v232 v226
  let c128_i32_112 : BitVec 32 := 128#32
  let v235 : BitVec 32 := Scalar.muli v233 c128_i32_112
  let v236 : BitVec 32 := Scalar.addi v234 v235
  v236
def k0_off8 (i : grid0.Coords) (k0_t1 : Fin k0_t1_loop.trips) : Fin 3 → Nat :=
  let c2_i32_62 : BitVec 32 := 2#32
  let c0_i32_8 : BitVec 32 := 0#32
  let c1_i32 : BitVec 32 := 1#32
  let arg12 : BitVec 32 := Scf.iv c0_i32_8 c1_i32 k0_t1
  let v138 : BitVec 32 := Scalar.muli c2_i32_62 arg12
  let c1_i32_63 : BitVec 32 := 1#32
  let v139 : BitVec 32 := Scalar.addi v138 c1_i32_63
  let c0_i32_99 : BitVec 32 := 0#32
  let v208 : BitVec 1 := Scalar.cmpi .sgt v139 c0_i32_99
  let v209 : BitVec 32 := Scalar.extui v208
  let c0_i32_100 : BitVec 32 := 0#32
  let v210 : BitVec 1 := Scalar.cmpi .slt v139 c0_i32_100
  let v211 : BitVec 32 := Scalar.extui v210
  let v212 : BitVec 32 := Scalar.subi v209 v211
  let c4_i32_98 : BitVec 32 := 4#32
  let c0_i32_101 : BitVec 32 := 0#32
  let v213 : BitVec 1 := Scalar.cmpi .sgt c4_i32_98 c0_i32_101
  let v214 : BitVec 32 := Scalar.extui v213
  let c0_i32_102 : BitVec 32 := 0#32
  let v215 : BitVec 1 := Scalar.cmpi .slt c4_i32_98 c0_i32_102
  let v216 : BitVec 32 := Scalar.extui v215
  let v217 : BitVec 32 := Scalar.subi v214 v216
  let v218 : BitVec 1 := Scalar.cmpi .ne v212 v217
  let v219 : BitVec 32 := Scalar.remsi v139 c4_i32_98
  let c0_i32_103 : BitVec 32 := 0#32
  let v220 : BitVec 1 := Scalar.cmpi .ne v219 c0_i32_103
  let v221 : BitVec 1 := Scalar.andi v218 v220
  let v207 : BitVec 32 := Scalar.divsi v139 c4_i32_98
  let c1_i32_104 : BitVec 32 := 1#32
  let v222 : BitVec 32 := Scalar.subi v207 c1_i32_104
  let v223 : BitVec 32 := Scalar.select v221 v222 v207
  let c0_i32_113 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_111 : BitVec 32 := 512#32
  let v234 : BitVec 32 := Scalar.muli v1 c512_i32_111
  let c4_i32_105 : BitVec 32 := 4#32
  let c0_i32_106 : BitVec 32 := 0#32
  let v224 : BitVec 1 := Scalar.cmpi .eq c4_i32_105 c0_i32_106
  let c1_i32_107 : BitVec 32 := 1#32
  let v225 : BitVec 32 := Scalar.select v224 c1_i32_107 c4_i32_105
  let v226 : BitVec 32 := Scalar.remsi v139 v225
  let c0_i32_109 : BitVec 32 := 0#32
  let v228 : BitVec 1 := Scalar.cmpi .slt v226 c0_i32_109
  let c0_i32_110 : BitVec 32 := 0#32
  let v229 : BitVec 1 := Scalar.cmpi .slt v225 c0_i32_110
  let v230 : BitVec 1 := Scalar.xori v228 v229
  let c0_i32_108 : BitVec 32 := 0#32
  let v227 : BitVec 1 := Scalar.cmpi .ne v226 c0_i32_108
  let v231 : BitVec 1 := Scalar.andi v230 v227
  let v232 : BitVec 32 := Scalar.addi v226 v225
  let v233 : BitVec 32 := Scalar.select v231 v232 v226
  let c128_i32_112 : BitVec 32 := 128#32
  let v235 : BitVec 32 := Scalar.muli v233 c128_i32_112
  let v236 : BitVec 32 := Scalar.addi v234 v235
  let v237 : BitVec 32 := v236
  ![v223.toNat, 0, v237.toNat]
def k0_cond4 (k0_t1 : Fin k0_t1_loop.trips) : BitVec 1 :=
  let c2_i32_62 : BitVec 32 := 2#32
  let c0_i32_8 : BitVec 32 := 0#32
  let c1_i32 : BitVec 32 := 1#32
  let arg12 : BitVec 32 := Scf.iv c0_i32_8 c1_i32 k0_t1
  let v138 : BitVec 32 := Scalar.muli c2_i32_62 arg12
  let c1_i32_63 : BitVec 32 := 1#32
  let v139 : BitVec 32 := Scalar.addi v138 c1_i32_63
  let c2_i32_115 : BitVec 32 := 2#32
  let v242 : BitVec 32 := Scalar.addi v139 c2_i32_115
  let c104_i32_116 : BitVec 32 := 104#32
  let v243 : BitVec 1 := Scalar.cmpi .slt v242 c104_i32_116
  let v244 : BitVec 32 := Scalar.extui v243
  let c0_i32_117 : BitVec 32 := 0#32
  let v245 : BitVec 1 := Scalar.cmpi .ne v244 c0_i32_117
  v245

def k0_mult10 (i : grid0.Coords) (k0_t1 : Fin k0_t1_loop.trips) : BitVec 32 :=
  let c2_i32_62 : BitVec 32 := 2#32
  let c0_i32_8 : BitVec 32 := 0#32
  let c1_i32 : BitVec 32 := 1#32
  let arg12 : BitVec 32 := Scf.iv c0_i32_8 c1_i32 k0_t1
  let v138 : BitVec 32 := Scalar.muli c2_i32_62 arg12
  let c1_i32_63 : BitVec 32 := 1#32
  let v139 : BitVec 32 := Scalar.addi v138 c1_i32_63
  let c2_i32_118 : BitVec 32 := 2#32
  let v246 : BitVec 32 := Scalar.addi v139 c2_i32_118
  let c0_i32_120 : BitVec 32 := 0#32
  let v248 : BitVec 1 := Scalar.cmpi .sgt v246 c0_i32_120
  let v249 : BitVec 32 := Scalar.extui v248
  let c0_i32_121 : BitVec 32 := 0#32
  let v250 : BitVec 1 := Scalar.cmpi .slt v246 c0_i32_121
  let v251 : BitVec 32 := Scalar.extui v250
  let v252 : BitVec 32 := Scalar.subi v249 v251
  let c4_i32_119 : BitVec 32 := 4#32
  let c0_i32_122 : BitVec 32 := 0#32
  let v253 : BitVec 1 := Scalar.cmpi .sgt c4_i32_119 c0_i32_122
  let v254 : BitVec 32 := Scalar.extui v253
  let c0_i32_123 : BitVec 32 := 0#32
  let v255 : BitVec 1 := Scalar.cmpi .slt c4_i32_119 c0_i32_123
  let v256 : BitVec 32 := Scalar.extui v255
  let v257 : BitVec 32 := Scalar.subi v254 v256
  let v258 : BitVec 1 := Scalar.cmpi .ne v252 v257
  let v259 : BitVec 32 := Scalar.remsi v246 c4_i32_119
  let c0_i32_124 : BitVec 32 := 0#32
  let v260 : BitVec 1 := Scalar.cmpi .ne v259 c0_i32_124
  let v261 : BitVec 1 := Scalar.andi v258 v260
  let v247 : BitVec 32 := Scalar.divsi v246 c4_i32_119
  let c1_i32_125 : BitVec 32 := 1#32
  let v262 : BitVec 32 := Scalar.subi v247 c1_i32_125
  let v263 : BitVec 32 := Scalar.select v261 v262 v247
  let c16384_i32_132 : BitVec 32 := 16384#32
  let v274 : BitVec 32 := Scalar.muli v263 c16384_i32_132
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_133 : BitVec 32 := 512#32
  let v275 : BitVec 32 := Scalar.muli v1 c512_i32_133
  let v276 : BitVec 32 := Scalar.addi v274 v275
  let c4_i32_126 : BitVec 32 := 4#32
  let c0_i32_127 : BitVec 32 := 0#32
  let v264 : BitVec 1 := Scalar.cmpi .eq c4_i32_126 c0_i32_127
  let c1_i32_128 : BitVec 32 := 1#32
  let v265 : BitVec 32 := Scalar.select v264 c1_i32_128 c4_i32_126
  let v266 : BitVec 32 := Scalar.remsi v246 v265
  let c0_i32_130 : BitVec 32 := 0#32
  let v268 : BitVec 1 := Scalar.cmpi .slt v266 c0_i32_130
  let c0_i32_131 : BitVec 32 := 0#32
  let v269 : BitVec 1 := Scalar.cmpi .slt v265 c0_i32_131
  let v270 : BitVec 1 := Scalar.xori v268 v269
  let c0_i32_129 : BitVec 32 := 0#32
  let v267 : BitVec 1 := Scalar.cmpi .ne v266 c0_i32_129
  let v271 : BitVec 1 := Scalar.andi v270 v267
  let v272 : BitVec 32 := Scalar.addi v266 v265
  let v273 : BitVec 32 := Scalar.select v271 v272 v266
  let c128_i32_134 : BitVec 32 := 128#32
  let v277 : BitVec 32 := Scalar.muli v273 c128_i32_134
  let v278 : BitVec 32 := Scalar.addi v276 v277
  v278
def k0_off9 (i : grid0.Coords) (k0_t1 : Fin k0_t1_loop.trips) : Fin 2 → Nat :=
  let c2_i32_62 : BitVec 32 := 2#32
  let c0_i32_8 : BitVec 32 := 0#32
  let c1_i32 : BitVec 32 := 1#32
  let arg12 : BitVec 32 := Scf.iv c0_i32_8 c1_i32 k0_t1
  let v138 : BitVec 32 := Scalar.muli c2_i32_62 arg12
  let c1_i32_63 : BitVec 32 := 1#32
  let v139 : BitVec 32 := Scalar.addi v138 c1_i32_63
  let c2_i32_118 : BitVec 32 := 2#32
  let v246 : BitVec 32 := Scalar.addi v139 c2_i32_118
  let c0_i32_120 : BitVec 32 := 0#32
  let v248 : BitVec 1 := Scalar.cmpi .sgt v246 c0_i32_120
  let v249 : BitVec 32 := Scalar.extui v248
  let c0_i32_121 : BitVec 32 := 0#32
  let v250 : BitVec 1 := Scalar.cmpi .slt v246 c0_i32_121
  let v251 : BitVec 32 := Scalar.extui v250
  let v252 : BitVec 32 := Scalar.subi v249 v251
  let c4_i32_119 : BitVec 32 := 4#32
  let c0_i32_122 : BitVec 32 := 0#32
  let v253 : BitVec 1 := Scalar.cmpi .sgt c4_i32_119 c0_i32_122
  let v254 : BitVec 32 := Scalar.extui v253
  let c0_i32_123 : BitVec 32 := 0#32
  let v255 : BitVec 1 := Scalar.cmpi .slt c4_i32_119 c0_i32_123
  let v256 : BitVec 32 := Scalar.extui v255
  let v257 : BitVec 32 := Scalar.subi v254 v256
  let v258 : BitVec 1 := Scalar.cmpi .ne v252 v257
  let v259 : BitVec 32 := Scalar.remsi v246 c4_i32_119
  let c0_i32_124 : BitVec 32 := 0#32
  let v260 : BitVec 1 := Scalar.cmpi .ne v259 c0_i32_124
  let v261 : BitVec 1 := Scalar.andi v258 v260
  let v247 : BitVec 32 := Scalar.divsi v246 c4_i32_119
  let c1_i32_125 : BitVec 32 := 1#32
  let v262 : BitVec 32 := Scalar.subi v247 c1_i32_125
  let v263 : BitVec 32 := Scalar.select v261 v262 v247
  let c16384_i32_132 : BitVec 32 := 16384#32
  let v274 : BitVec 32 := Scalar.muli v263 c16384_i32_132
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_133 : BitVec 32 := 512#32
  let v275 : BitVec 32 := Scalar.muli v1 c512_i32_133
  let v276 : BitVec 32 := Scalar.addi v274 v275
  let c4_i32_126 : BitVec 32 := 4#32
  let c0_i32_127 : BitVec 32 := 0#32
  let v264 : BitVec 1 := Scalar.cmpi .eq c4_i32_126 c0_i32_127
  let c1_i32_128 : BitVec 32 := 1#32
  let v265 : BitVec 32 := Scalar.select v264 c1_i32_128 c4_i32_126
  let v266 : BitVec 32 := Scalar.remsi v246 v265
  let c0_i32_130 : BitVec 32 := 0#32
  let v268 : BitVec 1 := Scalar.cmpi .slt v266 c0_i32_130
  let c0_i32_131 : BitVec 32 := 0#32
  let v269 : BitVec 1 := Scalar.cmpi .slt v265 c0_i32_131
  let v270 : BitVec 1 := Scalar.xori v268 v269
  let c0_i32_129 : BitVec 32 := 0#32
  let v267 : BitVec 1 := Scalar.cmpi .ne v266 c0_i32_129
  let v271 : BitVec 1 := Scalar.andi v270 v267
  let v272 : BitVec 32 := Scalar.addi v266 v265
  let v273 : BitVec 32 := Scalar.select v271 v272 v266
  let c128_i32_134 : BitVec 32 := 128#32
  let v277 : BitVec 32 := Scalar.muli v273 c128_i32_134
  let v278 : BitVec 32 := Scalar.addi v276 v277
  let v279 : BitVec 32 := v278
  let c0_i32_135 : BitVec 32 := 0#32
  ![v279.toNat, 0]
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_10 : BitVec 32 := 512#32
  let v16 : BitVec 32 := Scalar.muli v1 c512_i32_10
  let c256_i32 : BitVec 32 := 256#32
  let v17 : BitVec 32 := Scalar.addi v16 c256_i32
  v17
def k0_off10 (i : grid0.Coords) (c256_i32 : BitVec 32) : Fin 3 → Nat :=
  let c25_i32 : BitVec 32 := 25#32
  let c0_i32_11 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_10 : BitVec 32 := 512#32
  let v16 : BitVec 32 := Scalar.muli v1 c512_i32_10
  let v17 : BitVec 32 := Scalar.addi v16 c256_i32
  let v18 : BitVec 32 := v17
  ![25, 0, v18.toNat]
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_13 : BitVec 32 := 512#32
  let v23 : BitVec 32 := Scalar.muli v1 c512_i32_13
  let c384_i32 : BitVec 32 := 384#32
  let v24 : BitVec 32 := Scalar.addi v23 c384_i32
  v24
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S1000000x64 : Shape := ⟨2, ![1000000, 64]⟩
abbrev S_ : Shape := ⟨0, ![]⟩
abbrev S16384x26x1 : Shape := ⟨3, ![16384, 26, 1]⟩
abbrev S1 : Shape := ⟨1, ![1]⟩
abbrev S1x1x1 : Shape := ⟨3, ![1, 1, 1]⟩
abbrev S16384x26x64 : Shape := ⟨3, ![16384, 26, 64]⟩

abbrev nBuf : Space → Nat
  | .hbm => 51
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S1000000x64, .f32⟩
  | .hbm, ⟨2, _⟩ => ⟨S_, .i32⟩
  | .hbm, ⟨3, _⟩ => ⟨S_, .i32⟩
  | .hbm, ⟨4, _⟩ => ⟨S16384x26, .i32⟩
  | .hbm, ⟨5, _⟩ => ⟨S16384x26, .i32⟩
  | .hbm, ⟨6, _⟩ => ⟨S16384x26, .i32⟩
  | .hbm, ⟨7, _⟩ => ⟨S_, .i32⟩
  | .hbm, ⟨8, _⟩ => ⟨S16384x26, .i32⟩
  | .hbm, ⟨9, _⟩ => ⟨S16384x26, .i1⟩
  | .hbm, ⟨10, _⟩ => ⟨S16384x26, .i32⟩
  | .hbm, ⟨11, _⟩ => ⟨S16384x26, .i32⟩
  | .hbm, ⟨12, _⟩ => ⟨S_, .i32⟩
  | .hbm, ⟨13, _⟩ => ⟨S16384x26, .i32⟩
  | .hbm, ⟨14, _⟩ => ⟨S16384x26, .i1⟩
  | .hbm, ⟨15, _⟩ => ⟨S16384x26, .i1⟩
  | .hbm, ⟨16, _⟩ => ⟨S_, .i32⟩
  | .hbm, ⟨17, _⟩ => ⟨S16384x26, .i32⟩
  | .hbm, ⟨18, _⟩ => ⟨S16384x26, .i32⟩
  | .hbm, ⟨19, _⟩ => ⟨S16384x26, .i32⟩
  | .hbm, ⟨20, _⟩ => ⟨S_, .i32⟩
  | .hbm, ⟨21, _⟩ => ⟨S16384x26, .i32⟩
  | .hbm, ⟨22, _⟩ => ⟨S16384x26, .i32⟩
  | .hbm, ⟨23, _⟩ => ⟨S16384x26, .i32⟩
  | .hbm, ⟨24, _⟩ => ⟨S_, .i32⟩
  | .hbm, ⟨25, _⟩ => ⟨S16384x26, .i32⟩
  | .hbm, ⟨26, _⟩ => ⟨S16384x26, .i32⟩
  | .hbm, ⟨27, _⟩ => ⟨S16384x26, .i32⟩
  | .hbm, ⟨28, _⟩ => ⟨S_, .i32⟩
  | .hbm, ⟨29, _⟩ => ⟨S16384x26, .i32⟩
  | .hbm, ⟨30, _⟩ => ⟨S16384x26, .i1⟩
  | .hbm, ⟨31, _⟩ => ⟨S_, .i32⟩
  | .hbm, ⟨32, _⟩ => ⟨S16384x26, .i32⟩
  | .hbm, ⟨33, _⟩ => ⟨S16384x26, .i32⟩
  | .hbm, ⟨34, _⟩ => ⟨S16384x26, .i32⟩
  | .hbm, ⟨35, _⟩ => ⟨S16384x26x1, .i32⟩
  | .hbm, ⟨36, _⟩ => ⟨S1, .i32⟩
  | .hbm, ⟨37, _⟩ => ⟨S_, .i32⟩
  | .hbm, ⟨38, _⟩ => ⟨S16384x26x1, .i32⟩
  | .hbm, ⟨39, _⟩ => ⟨S16384x26x1, .i1⟩
  | .hbm, ⟨40, _⟩ => ⟨S1x1x1, .i32⟩
  | .hbm, ⟨41, _⟩ => ⟨S16384x26x1, .i32⟩
  | .hbm, ⟨42, _⟩ => ⟨S16384x26x1, .i1⟩
  | .hbm, ⟨43, _⟩ => ⟨S16384x26x1, .i1⟩
  | .hbm, ⟨44, _⟩ => ⟨S_, .i1⟩
  | .hbm, ⟨45, _⟩ => ⟨S16384x26, .i1⟩
  | .hbm, ⟨46, _⟩ => ⟨S16384x26x64, .f32⟩
  | .hbm, ⟨47, _⟩ => ⟨S16384x26x64, .i1⟩
  | .hbm, ⟨48, _⟩ => ⟨S_, .f32⟩
  | .hbm, ⟨49, _⟩ => ⟨S16384x26x64, .f32⟩
  | .hbm, ⟨50, _⟩ => ⟨S16384x26x64, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_c_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c_1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v7 : Ref sig .tc := ⟨.hbm, 50, rfl⟩

abbrev nD : Nat := 1
abbrev τ : Topo := Topo.v7x

variable {F : FTy → Type} [FloatOps F]
-- ==== Proof.Setup.lean ====
/-
  The program as the launch theorem sees it, the resource algebra, the buffers' places, and the rules of the vector
  gathers and scatters on a memref whose contents are known by what it reads.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.Transfers
public import Idealize.ShloMosaic.Lib.Memref
public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## A tile and its buffers -/

/-- The thread of the tile at the coordinates `i` on device `d`. -/
abbrev tl (d : Dev nD) (i : grid0.Coords) : Thread nD τ := V d ((i 0).castLE hcore0) ((i 1).castLE hsub0)

/-- The gathered rows, as a tile names them. -/
abbrev rowsM : Memref sig .scVector .hbm S425984x64 .f32 := Memref.whole main_v8_scv
/-- The kernel's result, as a tile names it. -/
abbrev outM : Memref sig .scVector .hbm S26x64x16384 .f32 := Memref.whole main_v9_scv

/-- The gathered rows' place on device `d`. -/
abbrev rowsLoc (d : Dev nD) : Loc nD τ sig := (SparseCore.T d).loc main_v8
/-- The kernel result's place on device `d`. -/
abbrev outLoc (d : Dev nD) : Loc nD τ sig := (SparseCore.T d).loc main_v9

variable [FloatOps F]

/-- The weakest precondition of a piece of the tile's own program. -/
abbrev twp (d : Dev nD) (i : grid0.Coords) {α : Type} (p : Prog (TpuEff nD τ sig (Elt F) Λ₀ (tl d i).2) α) (Q : α → sProp 𝕄) : sProp 𝕄 :=
  wp frame (wpE (defs₀ (F := F)) 𝒱₀ (tl d i) none) Set.univ p Q

section Ops
variable (d : Dev nD) (i : grid0.Coords) {α : Type} {s : Shape}

omit [FloatOps F] in
theorem set_whole_access {κ : Kind} {sp : Space} {e : EltTy} (v : View sig κ sp s e) : (v.slice (Rect.whole s)).set = v.set := by
  rw [View.set_slice, Rect.set_whole]; rfl

omit [FloatOps F] in
theorem read_whole_access {κ : Kind} {sp : Space} {e : EltTy} (v : View sig κ sp s e) (f : v.ty.Contents (Elt F)) :
    (v.slice (Rect.whole s)).read (Elt F) f = v.read (Elt F) f := by
  funext x
  rw [View.read_apply, View.read_apply, View.emb_slice]
  show _root_.cast _ (f (v.emb ((Rect.whole s).emb x))) = _
  rw [Rect.emb_whole_apply]

/-- A gather out of a memref reads what the memref reads. -/
theorem wp_gather {base : Memref sig (tl d i).2.kind .vmem s .f32} {t : Shape} {idxs : Fin s.rank → IVec t 32}
    {h : ∀ a x, (idxs a x).toNat < s.size a} {hl : base.view.Loads} {X : s.Idx → Elt F .f32} {q : PosShare TreeShare}
    {k : Vec F t .f32 → Prog (TpuEff nD τ sig (Elt F) Λ₀ (tl d i).2) α} {Q : α → sProp 𝕄} :
    owns (tl d i) base q X ⊢ iprop((owns (tl d i) base q X -∗ twp d i (k (loadIdx X idxs h)) Q)
      -∗ twp d i (SparseCore.vectorLoadIdx base idxs h hl >>= k) Q) := by
  unfold owns twp
  iintro ⟨%f, %hf, H⟩ Hk
  iapply (SparseCore.wp_vectorLoadIdx 𝒱₀ (tl d i) none Set.univ (base := base) (q := q) (f := f) (S := base.view.set)
    (by rw [set_whole_access])) $$ H
  iintro H
  rw [read_whole_access, hf]
  iapply Hk
  iexists f
  isplitr; · ipureintro; exact hf
  iexact H

/-- A scatter over a memref leaves it at the scattered contents. -/
theorem wp_scatter {base : Memref sig (tl d i).2.kind .vmem s .f32} {n : Fin 1 → Nat} {idxs : Fin s.rank → IVec ⟨1, n⟩ 32}
    {v : Vec F ⟨1, n⟩ .f32} {mask : IVec ⟨1, n⟩ 1} {add : Bool}
    {h : ∀ a x, (idxs a x).toNat < s.size a} {hs : (base.access (.whole s)).Stores Finset.univ} {X : s.Idx → Elt F .f32}
    {k : PUnit → Prog (TpuEff nD τ sig (Elt F) Λ₀ (tl d i).2) α} {Q : α → sProp 𝕄} :
    owns (tl d i) base fullShare X ⊢ iprop((owns (tl d i) base fullShare (storeIdx X idxs v mask add h) -∗ twp d i (k ⟨⟩) Q)
      -∗ twp d i (SparseCore.vectorStoreIdx base idxs v mask add h hs >>= k) Q) := by
  have hset := set_whole_access base.view
  unfold owns twp
  iintro ⟨%f, %hf, H⟩ Hk
  iapply (SparseCore.wp_vectorStoreIdx 𝒱₀ (tl d i) none Set.univ (base := base) (f := f)) $$ [H]
  · rw [hset]; iexact H
  iintro H
  iapply Hk
  iexists _
  isplitr [H]
  rotate_left
  · rw [hset]; iexact H
  · ipureintro
    rw [← read_whole_access, View.read_write_univ, read_whole_access, hf]

end Ops

end Cert.Proof.Tile

end
-- ==== Proof.Shuffle.lean ====
/-
  The transposing copy of one fetched block: 64 trips, each gathering one column of the fetched 128×64 block and
  scattering it as one row of the 64×128 block that goes out. One theorem for both pairs of buffers.
-/
module

public import proofs.«01_k».proof.Proof.Setup

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Values -/

/-- Element `(b, e)` of a fetched block. -/
def at2 (b : Fin 128) (e : Fin 64) : S128x64.Idx := fun a => match a with | ⟨0, _⟩ => b | ⟨1, _⟩ => e

/-- A fetched block, transposed. -/
def tr (r : S128x64.Idx → Elt F .f32) : S64x128.Idx → Elt F .f32 := fun j => r (at2 (j 1) (j 0))

/-- The lanes of `p` are `16 q, 16 q + 1, …`. -/
def Lanes (p : IVec S16 32) (q : ℕ) : Prop := ∀ x : S16.Idx, (p x).toNat = 16 * q + (x 0).val

/-- Every lane of `w` is `n`. -/
def Splat (w : IVec S16 32) (n : ℕ) : Prop := ∀ x : S16.Idx, (w x).toNat = n

/-- The lanes of `a` are column `n` of the block, from row `16 q` on. -/
def IsCol (r : S128x64.Idx → Elt F .f32) (n q : ℕ) (a : Vec F S16 .f32) : Prop :=
  ∀ (x : S16.Idx) (b : Fin 128) (e : Fin 64), b.val = 16 * q + (x 0).val → e.val = n → a x = r (at2 b e)

/-- The block `g` agrees with `t` on the rows before `n` and on the first `16 q` elements of row `n`. -/
def Upto (t : S64x128.Idx → Elt F .f32) (n q : ℕ) (g : S64x128.Idx → Elt F .f32) : Prop :=
  ∀ j : S64x128.Idx, ((j 0).val < n ∨ ((j 0).val = n ∧ (j 1).val < 16 * q)) → g j = t j

theorem Upto.next {t g : S64x128.Idx → Elt F .f32} {n : ℕ} (h : Upto t n 8 g) : Upto t (n + 1) 0 g := by
  intro j hj
  have h1 : (j 1).val < 128 := (j 1).isLt
  exact h j (by omega)

theorem Upto.all {t g : S64x128.Idx → Elt F .f32} (h : Upto t 63 8 g) : g = t := by
  funext j
  have h0 : (j 0).val < 64 := (j 0).isLt
  have h1 : (j 1).val < 128 := (j 1).isLt
  exact h j (by omega)

theorem upto_zero (t g : S64x128.Idx → Elt F .f32) : Upto t 0 0 g := fun j hj => by omega

/-- A gather at the lanes `16 q, …` of rows and column `n` yields that piece of the column. -/
theorem isCol_loadIdx (r : S128x64.Idx → Elt F .f32) {p w : IVec S16 32} {n q : ℕ} (hp : Lanes p q) (hw : Splat w n)
    (h : ∀ a x, ((![p, w] : Fin 2 → IVec S16 32) a x).toNat < S128x64.size a) : IsCol r n q (loadIdx (F := F) (e := .f32) r ![p, w] h) := by
  intro x b e hb he
  show r (idxAt ![p, w] h x) = r (at2 b e)
  congr 1
  funext a
  apply Fin.ext
  match a with
  | ⟨0, _⟩ => show (p x).toNat = b.val; rw [hp x, hb]
  | ⟨1, _⟩ => show (w x).toNat = e.val; rw [hw x, he]

/-- A scatter of what `t` holds at the places it names keeps `t`'s values where they are and puts them at those places. -/
theorem storeIdx_agrees {s : Shape} (g t : s.Idx → Elt F .f32) (A : s.Idx → Prop) (idxs : Fin s.rank → IVec S16 32) (v : Vec F S16 .f32)
    (h : ∀ a x, (idxs a x).toNat < s.size a) [FloatOps F] (hv : ∀ x, v x = t (idxAt idxs h x)) (hg : ∀ j, A j → g j = t j) :
    ∀ j, (A j ∨ ∃ x, j = idxAt idxs h x) → storeIdx (F := F) (e := .f32) g idxs v (fun _ => 1#1) false h j = t j := by
  unfold storeIdx
  have key : ∀ (l : List (Fin ((![16] : Fin 1 → ℕ) 0))) (g : s.Idx → Elt F .f32) (A : s.Idx → Prop), (∀ j, A j → g j = t j) →
      ∀ j, (A j ∨ ∃ k ∈ l, j = idxAt idxs h (Shape.ofLane k)) →
        l.foldl (fun (g : s.Idx → Elt F .f32) k => fun j => if (∀ a, (j a).val = (idxAt idxs h (Shape.ofLane k) a).val) then v (Shape.ofLane k) else g j) g j = t j := by
    intro l
    induction l with
    | nil => intro g A hg j hj; exact hj.elim (hg j) fun ⟨_, hk, _⟩ => absurd hk List.not_mem_nil
    | cons k l ih =>
      intro g A hg j hj
      rw [List.foldl_cons]
      refine ih _ (fun j => A j ∨ j = idxAt idxs h (Shape.ofLane k)) ?_ j ?_
      · intro j hj
        by_cases hjk : ∀ a, (j a).val = (idxAt idxs h (Shape.ofLane k) a).val
        · rw [if_pos hjk, hv]
          congr 1
          funext a; exact Fin.ext (hjk a).symm
        · rw [if_neg hjk]
          rcases hj with hj | hj
          · exact hg j hj
          · exact absurd (fun a => by rw [hj]) hjk
      · rcases hj with hj | ⟨k', hk', hj⟩
        · exact .inl (.inl hj)
        · rcases List.mem_cons.mp hk' with rfl | hk'
          · exact .inl (.inr hj)
          · exact .inr ⟨k', hk', hj⟩
  intro j hj
  refine Eq.trans ?_ (key (List.finRange ((![16] : Fin 1 → ℕ) 0)) g A hg j ?_)
  · refine congrFun (congrArg (fun φ => List.foldl φ g _) ?_) j
    funext g k
    have h1 : (1#1 : BitVec 1) = 1 := rfl
    refine (if_pos h1).trans ?_
    funext j
    simp only [Bool.false_eq_true, if_false]
  · rcases hj with hj | ⟨x, hx⟩
    · exact .inl hj
    · refine .inr ⟨x 0, List.mem_finRange _, ?_⟩
      rw [hx]
      congr 1
      funext a
      match a with | ⟨0, _⟩ => rfl

/-- One scatter of a piece of column `n` extends row `n` by sixteen elements. -/
theorem Upto.store [FloatOps F] {r : S128x64.Idx → Elt F .f32} {g : S64x128.Idx → Elt F .f32} {p w : IVec S16 32} {n q : ℕ} (hp : Lanes p q)
    (hw : Splat w n) {v : Vec F S16 .f32} (hv : IsCol r n q v)
    (h : ∀ a x, ((![w, p] : Fin 2 → IVec S16 32) a x).toNat < S64x128.size a) (hg : Upto (tr r) n q g) :
    Upto (tr r) n (q + 1) (storeIdx (F := F) (e := .f32) g ![w, p] v (fun _ => 1#1) false h) := by
  intro j hj
  refine storeIdx_agrees g (tr r) (fun j => (j 0).val < n ∨ ((j 0).val = n ∧ (j 1).val < 16 * q)) ![w, p] v h ?_ hg j ?_
  · intro x
    exact hv x _ _ (hp x) (hw x)
  · by_cases hlt : (j 0).val < n ∨ ((j 0).val = n ∧ (j 1).val < 16 * q)
    · exact .inl hlt
    · have hx : (j 1).val - 16 * q < 16 := by omega
      let x : S16.Idx := fun a => match a with | ⟨0, _⟩ => ⟨(j 1).val - 16 * q, hx⟩
      refine .inr ⟨x, ?_⟩
      funext a
      apply Fin.ext
      match a with
      | ⟨0, _⟩ => show (j 0).val = (w x).toNat; rw [hw x]; omega
      | ⟨1, _⟩ => show (j 1).val = (p x).toNat; rw [hp x]; show (j 1).val = 16 * q + ((j 1).val - 16 * q); omega

/-! ## The index vectors -/

/-- The lane numbers. -/
abbrev lanes0 : IVec S16 32 := iota .scVector S16 32 [0] iota_S16_d0_w32_scVector

theorem lanes_add (c : BitVec 32) (q : ℕ) (hq : c.toNat = 16 * q) (hb : q < 8) : Lanes (addi (broadcast S16 c) lanes0) q := by
  intro x
  have hx : (x 0).val < 16 := (x 0).isLt
  have hi : (lanes0 x).toNat = (x 0).val := by
    have : ∀ y : Fin 16, (lanes0 (fun a => match a with | ⟨0, _⟩ => y)).toNat = y.val := by decide
    have h := this (x 0)
    have e : (fun a => match a with | ⟨0, _⟩ => x 0 : S16.Idx) = x := by funext a; match a with | ⟨0, _⟩ => rfl
    rw [e] at h; exact h
  show (c + lanes0 x).toNat = _
  rw [BitVec.toNat_add, hq, hi]
  omega

theorem splat_zero : Splat (broadcast S16 0#32) 0 := fun _ => rfl

theorem splat_succ {w : IVec S16 32} {n : ℕ} (hw : Splat w n) (hn : n < 64) : Splat (addi w (broadcast S16 1#32)) (n + 1) := by
  intro x
  show (w x + 1#32).toNat = _
  rw [BitVec.toNat_add, hw x]
  show (n + 1) % 2 ^ 32 = n + 1
  omega

theorem load_inb {p w : IVec S16 32} {n q : ℕ} (hp : Lanes p q) (hq : q < 8) (hw : Splat w n) (hn : n < 64) :
    ∀ a x, ((![p, w] : Fin 2 → IVec S16 32) a x).toNat < S128x64.size a := by
  intro a x
  have hx : (x 0).val < 16 := (x 0).isLt
  match a with
  | ⟨0, _⟩ => show (p x).toNat < 128; rw [hp x]; omega
  | ⟨1, _⟩ => show (w x).toNat < 64; rw [hw x]; omega

theorem store_inb {p w : IVec S16 32} {n q : ℕ} (hp : Lanes p q) (hq : q < 8) (hw : Splat w n) (hn : n < 64) :
    ∀ a x, ((![w, p] : Fin 2 → IVec S16 32) a x).toNat < S64x128.size a := by
  intro a x
  have hx : (x 0).val < 16 := (x 0).isLt
  match a with
  | ⟨0, _⟩ => show (w x).toNat < 64; rw [hw x]; omega
  | ⟨1, _⟩ => show (p x).toNat < 128; rw [hp x]; omega

/-! ## The program -/

variable [FloatOps F]

abbrev Acc (F : FTy → Type) : Type := IVec S16 32 × IVec S16 32 × Vec F S16 .f32 × Vec F S16 .f32 × Vec F S16 .f32 × Vec F S16 .f32 × Vec F S16 .f32 × Vec F S16 .f32 × Vec F S16 .f32 × Vec F S16 .f32

section Prog
variable (i : grid0.Coords) (rb : Memref sig .scVector .vmem S128x64 .f32) (ob : Memref sig .scVector .vmem S64x128 .f32)
variable (p0 p1 p2 p3 p4 p5 p6 p7 : IVec S16 32)

abbrev TProg (α : Type) : Type 1 := Prog (TpuEff nD τ sig (Elt F) Λ₀ (.scVector ((i 0).castLE hcore0) ((i 1).castLE hsub0))) α

/-- One trip: the next column is gathered while the one carried in is scattered. -/
def trip : Fin k0_t2_loop.trips → Acc F → TProg (F := F) i (Acc F) :=
  fun _ (cv, pv, a0, a1, a2, a3, a4, a5, a6, a7) => do
    have hs : k0_chk3 p0 p1 p2 p3 p4 p5 p6 p7 pv := (← Prog.lift (TpuEff.assume (k0_chk3 p0 p1 p2 p3 p4 p5 p6 p7 pv) (k0_chk3.dec p0 p1 p2 p3 p4 p5 p6 p7 pv))).down
    have hc : k0_chk2 p0 p1 p2 p3 p4 p5 p6 p7 cv := (← Prog.lift (TpuEff.assume (k0_chk2 p0 p1 p2 p3 p4 p5 p6 p7 cv) (k0_chk2.dec p0 p1 p2 p3 p4 p5 p6 p7 cv))).down
    let b0 : Vec F S16 .f32 ← SparseCore.vectorLoadIdx rb ![p0, cv] (hc.1) (View.loads_vmem h_S128x64)
    let b1 : Vec F S16 .f32 ← SparseCore.vectorLoadIdx rb ![p1, cv] (hc.2.1) (View.loads_vmem h_S128x64)
    let b2 : Vec F S16 .f32 ← SparseCore.vectorLoadIdx rb ![p2, cv] (hc.2.2.1) (View.loads_vmem h_S128x64)
    let b3 : Vec F S16 .f32 ← SparseCore.vectorLoadIdx rb ![p3, cv] (hc.2.2.2.1) (View.loads_vmem h_S128x64)
    let b4 : Vec F S16 .f32 ← SparseCore.vectorLoadIdx rb ![p4, cv] (hc.2.2.2.2.1) (View.loads_vmem h_S128x64)
    let b5 : Vec F S16 .f32 ← SparseCore.vectorLoadIdx rb ![p5, cv] (hc.2.2.2.2.2.1) (View.loads_vmem h_S128x64)
    let b6 : Vec F S16 .f32 ← SparseCore.vectorLoadIdx rb ![p6, cv] (hc.2.2.2.2.2.2.1) (View.loads_vmem h_S128x64)
    let b7 : Vec F S16 .f32 ← SparseCore.vectorLoadIdx rb ![p7, cv] (hc.2.2.2.2.2.2.2) (View.loads_vmem h_S128x64)
    SparseCore.vectorStoreIdx ob ![pv, p0] a0 (fun _ => 1#1) false (hs.1) (View.stores_vmem_bits_univ h_S64x128 rfl)
    SparseCore.vectorStoreIdx ob ![pv, p1] a1 (fun _ => 1#1) false (hs.2.1) (View.stores_vmem_bits_univ h_S64x128 rfl)
    SparseCore.vectorStoreIdx ob ![pv, p2] a2 (fun _ => 1#1) false (hs.2.2.1) (View.stores_vmem_bits_univ h_S64x128 rfl)
    SparseCore.vectorStoreIdx ob ![pv, p3] a3 (fun _ => 1#1) false (hs.2.2.2.1) (View.stores_vmem_bits_univ h_S64x128 rfl)
    SparseCore.vectorStoreIdx ob ![pv, p4] a4 (fun _ => 1#1) false (hs.2.2.2.2.1) (View.stores_vmem_bits_univ h_S64x128 rfl)
    SparseCore.vectorStoreIdx ob ![pv, p5] a5 (fun _ => 1#1) false (hs.2.2.2.2.2.1) (View.stores_vmem_bits_univ h_S64x128 rfl)
    SparseCore.vectorStoreIdx ob ![pv, p6] a6 (fun _ => 1#1) false (hs.2.2.2.2.2.2.1) (View.stores_vmem_bits_univ h_S64x128 rfl)
    SparseCore.vectorStoreIdx ob ![pv, p7] a7 (fun _ => 1#1) false (hs.2.2.2.2.2.2.2) (View.stores_vmem_bits_univ h_S64x128 rfl)
    pure (k0_pay10 cv, cv, b0, b1, b2, b3, b4, b5, b6, b7)

/-- The whole copy, and then `kk`. -/
def shuffle {α : Type} (kk : TProg (F := F) i α) : TProg (F := F) i α := do
  have w : IVec S16 32 := broadcast S16 0#32
  have hc : k0_chk1 p0 p1 p2 p3 p4 p5 p6 p7 w := (← Prog.lift (TpuEff.assume (k0_chk1 p0 p1 p2 p3 p4 p5 p6 p7 w) (k0_chk1.dec p0 p1 p2 p3 p4 p5 p6 p7 w))).down
  let b0 : Vec F S16 .f32 ← SparseCore.vectorLoadIdx rb ![p0, w] (hc.1) (View.loads_vmem h_S128x64)
  let b1 : Vec F S16 .f32 ← SparseCore.vectorLoadIdx rb ![p1, w] (hc.2.1) (View.loads_vmem h_S128x64)
  let b2 : Vec F S16 .f32 ← SparseCore.vectorLoadIdx rb ![p2, w] (hc.2.2.1) (View.loads_vmem h_S128x64)
  let b3 : Vec F S16 .f32 ← SparseCore.vectorLoadIdx rb ![p3, w] (hc.2.2.2.1) (View.loads_vmem h_S128x64)
  let b4 : Vec F S16 .f32 ← SparseCore.vectorLoadIdx rb ![p4, w] (hc.2.2.2.2.1) (View.loads_vmem h_S128x64)
  let b5 : Vec F S16 .f32 ← SparseCore.vectorLoadIdx rb ![p5, w] (hc.2.2.2.2.2.1) (View.loads_vmem h_S128x64)
  let b6 : Vec F S16 .f32 ← SparseCore.vectorLoadIdx rb ![p6, w] (hc.2.2.2.2.2.2.1) (View.loads_vmem h_S128x64)
  let b7 : Vec F S16 .f32 ← SparseCore.vectorLoadIdx rb ![p7, w] (hc.2.2.2.2.2.2.2) (View.loads_vmem h_S128x64)
  let (_, pv, a0, a1, a2, a3, a4, a5, a6, a7) ← Scf.Loop.for k0_t2_loop k0_t2_ok (k0_pay9 w, w, b0, b1, b2, b3, b4, b5, b6, b7) (trip i rb ob p0 p1 p2 p3 p4 p5 p6 p7)
  have hs : k0_chk4 p0 p1 p2 p3 p4 p5 p6 p7 pv := (← Prog.lift (TpuEff.assume (k0_chk4 p0 p1 p2 p3 p4 p5 p6 p7 pv) (k0_chk4.dec p0 p1 p2 p3 p4 p5 p6 p7 pv))).down
  SparseCore.vectorStoreIdx ob ![pv, p0] a0 (fun _ => 1#1) false (hs.1) (View.stores_vmem_bits_univ h_S64x128 rfl)
  SparseCore.vectorStoreIdx ob ![pv, p1] a1 (fun _ => 1#1) false (hs.2.1) (View.stores_vmem_bits_univ h_S64x128 rfl)
  SparseCore.vectorStoreIdx ob ![pv, p2] a2 (fun _ => 1#1) false (hs.2.2.1) (View.stores_vmem_bits_univ h_S64x128 rfl)
  SparseCore.vectorStoreIdx ob ![pv, p3] a3 (fun _ => 1#1) false (hs.2.2.2.1) (View.stores_vmem_bits_univ h_S64x128 rfl)
  SparseCore.vectorStoreIdx ob ![pv, p4] a4 (fun _ => 1#1) false (hs.2.2.2.2.1) (View.stores_vmem_bits_univ h_S64x128 rfl)
  SparseCore.vectorStoreIdx ob ![pv, p5] a5 (fun _ => 1#1) false (hs.2.2.2.2.2.1) (View.stores_vmem_bits_univ h_S64x128 rfl)
  SparseCore.vectorStoreIdx ob ![pv, p6] a6 (fun _ => 1#1) false (hs.2.2.2.2.2.2.1) (View.stores_vmem_bits_univ h_S64x128 rfl)
  SparseCore.vectorStoreIdx ob ![pv, p7] a7 (fun _ => 1#1) false (hs.2.2.2.2.2.2.2) (View.stores_vmem_bits_univ h_S64x128 rfl)
  kk

end Prog

/-! ## Its rule -/

/-- A check that holds is passed. -/
theorem wp_check (d : Dev nD) (i : grid0.Coords) {α : Type} {C : Prop} {dec : Decidable C} (h : C)
    {k : PLift C → TProg (F := F) i α} {Q : α → sProp 𝕄} :
    twp d i (k ⟨h⟩) Q ⊢ twp d i (Prog.lift (TpuEff.assume C dec) >>= k) Q :=
  wp_assume 𝒱₀ (tl d i) none Set.univ h

/-- The loop's invariant before trip `n`: the carried vectors are the numbers `n + 1` and `n` and column `n`; the rows
    before `n` are written. -/
def Carried (d : Dev nD) (i : grid0.Coords) (rb : Memref sig .scVector .vmem S128x64 .f32) (ob : Memref sig .scVector .vmem S64x128 .f32)
    (r : S128x64.Idx → Elt F .f32) (n : ℕ) (acc : Acc F) : sProp 𝕄 :=
  iprop(∃ g, ⌜Splat acc.1 (n + 1) ∧ Splat acc.2.1 n ∧ IsCol r n 0 acc.2.2.1 ∧ IsCol r n 1 acc.2.2.2.1 ∧ IsCol r n 2 acc.2.2.2.2.1
      ∧ IsCol r n 3 acc.2.2.2.2.2.1 ∧ IsCol r n 4 acc.2.2.2.2.2.2.1 ∧ IsCol r n 5 acc.2.2.2.2.2.2.2.1
      ∧ IsCol r n 6 acc.2.2.2.2.2.2.2.2.1 ∧ IsCol r n 7 acc.2.2.2.2.2.2.2.2.2 ∧ Upto (tr r) n 0 g⌝
    ∗ owns (tl d i) rb fullShare r ∗ owns (tl d i) ob fullShare g)

section Rule
variable (d : Dev nD) (i : grid0.Coords) (rb : Memref sig .scVector .vmem S128x64 .f32) (ob : Memref sig .scVector .vmem S64x128 .f32)
variable (r : S128x64.Idx → Elt F .f32)
variable (p0 p1 p2 p3 p4 p5 p6 p7 : IVec S16 32)
variable (hp0 : Lanes p0 0) (hp1 : Lanes p1 1) (hp2 : Lanes p2 2) (hp3 : Lanes p3 3) (hp4 : Lanes p4 4) (hp5 : Lanes p5 5) (hp6 : Lanes p6 6) (hp7 : Lanes p7 7)
include hp0 hp1 hp2 hp3 hp4 hp5 hp6 hp7

theorem wp_trip (n : Fin k0_t2_loop.trips) (acc : Acc F) :
    Carried d i rb ob r n.val acc ⊢ twp d i (trip i rb ob p0 p1 p2 p3 p4 p5 p6 p7 n acc) (Carried d i rb ob r (n.val + 1)) := by
  have hn : n.val < 63 := lt_of_lt_of_le n.isLt k0_t2_abs.2.1
  obtain ⟨cv, pv, a0, a1, a2, a3, a4, a5, a6, a7⟩ := acc
  unfold Carried
  iintro ⟨%g, %hh, Hr, Ho⟩
  obtain ⟨hcv, hpv, h0, h1, h2, h3, h4, h5, h6, h7, hg⟩ := hh
  replace hcv : Splat cv (n.val + 1) := hcv
  replace hpv : Splat pv n.val := hpv
  unfold trip
  dsimp only
  have hchk3 : k0_chk3 p0 p1 p2 p3 p4 p5 p6 p7 pv := ⟨store_inb hp0 (by decide) hpv (by omega), store_inb hp1 (by decide) hpv (by omega), store_inb hp2 (by decide) hpv (by omega), store_inb hp3 (by decide) hpv (by omega), store_inb hp4 (by decide) hpv (by omega), store_inb hp5 (by decide) hpv (by omega), store_inb hp6 (by decide) hpv (by omega), store_inb hp7 (by decide) hpv (by omega)⟩
  have hchk2 : k0_chk2 p0 p1 p2 p3 p4 p5 p6 p7 cv := ⟨load_inb hp0 (by decide) hcv (by omega), load_inb hp1 (by decide) hcv (by omega), load_inb hp2 (by decide) hcv (by omega), load_inb hp3 (by decide) hcv (by omega), load_inb hp4 (by decide) hcv (by omega), load_inb hp5 (by decide) hcv (by omega), load_inb hp6 (by decide) hcv (by omega), load_inb hp7 (by decide) hcv (by omega)⟩
  iapply (wp_check d i hchk3)
  iapply (wp_check d i hchk2)
  iapply (wp_gather d i) $$ Hr; iintro Hr
  iapply (wp_gather d i) $$ Hr; iintro Hr
  iapply (wp_gather d i) $$ Hr; iintro Hr
  iapply (wp_gather d i) $$ Hr; iintro Hr
  iapply (wp_gather d i) $$ Hr; iintro Hr
  iapply (wp_gather d i) $$ Hr; iintro Hr
  iapply (wp_gather d i) $$ Hr; iintro Hr
  iapply (wp_gather d i) $$ Hr; iintro Hr
  iapply (wp_scatter d i) $$ Ho; iintro Ho
  iapply (wp_scatter d i) $$ Ho; iintro Ho
  iapply (wp_scatter d i) $$ Ho; iintro Ho
  iapply (wp_scatter d i) $$ Ho; iintro Ho
  iapply (wp_scatter d i) $$ Ho; iintro Ho
  iapply (wp_scatter d i) $$ Ho; iintro Ho
  iapply (wp_scatter d i) $$ Ho; iintro Ho
  iapply (wp_scatter d i) $$ Ho; iintro Ho
  rw [twp, wp_pure]
  imodintro
  iexists _
  isplitr [Hr Ho]
  rotate_left
  · isplitl [Hr]; · iexact Hr
    iexact Ho
  · ipureintro
    exact ⟨splat_succ hcv (by omega), hcv, isCol_loadIdx r hp0 hcv _, isCol_loadIdx r hp1 hcv _, isCol_loadIdx r hp2 hcv _, isCol_loadIdx r hp3 hcv _, isCol_loadIdx r hp4 hcv _, isCol_loadIdx r hp5 hcv _, isCol_loadIdx r hp6 hcv _, isCol_loadIdx r hp7 hcv _, Upto.next (Upto.store hp7 hpv h7 _ (Upto.store hp6 hpv h6 _ (Upto.store hp5 hpv h5 _ (Upto.store hp4 hpv h4 _ (Upto.store hp3 hpv h3 _ (Upto.store hp2 hpv h2 _ (Upto.store hp1 hpv h1 _ (Upto.store hp0 hpv h0 _ hg))))))))⟩

/-- The whole copy: from a fetched block and any contents of the outgoing block, the outgoing block is the fetched
    one transposed. -/
theorem wp_shuffle {α : Type} (kk : TProg (F := F) i α) (Q : α → sProp 𝕄) (g₀ : S64x128.Idx → Elt F .f32) :
    iprop(owns (tl d i) rb fullShare r ∗ owns (tl d i) ob fullShare g₀)
      ⊢ iprop((iprop(owns (tl d i) rb fullShare r ∗ owns (tl d i) ob fullShare (tr r)) -∗ twp d i kk Q)
        -∗ twp d i (shuffle i rb ob p0 p1 p2 p3 p4 p5 p6 p7 kk) Q) := by
  iintro ⟨Hr, Ho⟩ Hk
  unfold shuffle
  dsimp only
  have hchk : k0_chk1 p0 p1 p2 p3 p4 p5 p6 p7 (broadcast S16 0#32) := ⟨load_inb hp0 (by decide) splat_zero (by omega), load_inb hp1 (by decide) splat_zero (by omega), load_inb hp2 (by decide) splat_zero (by omega), load_inb hp3 (by decide) splat_zero (by omega), load_inb hp4 (by decide) splat_zero (by omega), load_inb hp5 (by decide) splat_zero (by omega), load_inb hp6 (by decide) splat_zero (by omega), load_inb hp7 (by decide) splat_zero (by omega)⟩
  iapply (wp_check d i hchk)
  iapply (wp_gather d i) $$ Hr; iintro Hr
  iapply (wp_gather d i) $$ Hr; iintro Hr
  iapply (wp_gather d i) $$ Hr; iintro Hr
  iapply (wp_gather d i) $$ Hr; iintro Hr
  iapply (wp_gather d i) $$ Hr; iintro Hr
  iapply (wp_gather d i) $$ Hr; iintro Hr
  iapply (wp_gather d i) $$ Hr; iintro Hr
  iapply (wp_gather d i) $$ Hr; iintro Hr
  rw [twp]
  iapply (Scf.wp_for_bind frame (wpE (defs₀ (F := F)) 𝒱₀ (tl d i) none) Set.univ k0_t2_loop.lb k0_t2_loop.ub k0_t2_loop.st k0_t2_ok
    (I := Carried d i rb ob r) (hbody := wp_trip d i rb ob r p0 p1 p2 p3 p4 p5 p6 p7 hp0 hp1 hp2 hp3 hp4 hp5 hp6 hp7)) $$ [Hr Ho]
  · unfold Carried
    iexists g₀
    isplitr [Hr Ho]
    rotate_left
    · isplitl [Hr]; · iexact Hr
      iexact Ho
    · ipureintro
      exact ⟨splat_succ splat_zero (by omega), splat_zero, isCol_loadIdx r hp0 splat_zero _, isCol_loadIdx r hp1 splat_zero _, isCol_loadIdx r hp2 splat_zero _, isCol_loadIdx r hp3 splat_zero _, isCol_loadIdx r hp4 splat_zero _, isCol_loadIdx r hp5 splat_zero _, isCol_loadIdx r hp6 splat_zero _, isCol_loadIdx r hp7 splat_zero _, upto_zero _ _⟩
  rw [show Scf.trips k0_t2_loop.lb k0_t2_loop.ub k0_t2_loop.st = 63 from by decide]
  iintro %acc HI
  obtain ⟨cv, pv, a0, a1, a2, a3, a4, a5, a6, a7⟩ := acc
  unfold Carried
  icases HI with ⟨%g, %hh, Hr, Ho⟩
  obtain ⟨-, hpv, h0, h1, h2, h3, h4, h5, h6, h7, hg⟩ := hh
  replace hpv : Splat pv 63 := hpv
  dsimp only
  have hchk4 : k0_chk4 p0 p1 p2 p3 p4 p5 p6 p7 pv := ⟨store_inb hp0 (by decide) hpv (by omega), store_inb hp1 (by decide) hpv (by omega), store_inb hp2 (by decide) hpv (by omega), store_inb hp3 (by decide) hpv (by omega), store_inb hp4 (by decide) hpv (by omega), store_inb hp5 (by decide) hpv (by omega), store_inb hp6 (by decide) hpv (by omega), store_inb hp7 (by decide) hpv (by omega)⟩
  iapply (wp_check d i hchk4)
  iapply (wp_scatter d i) $$ Ho; iintro Ho
  iapply (wp_scatter d i) $$ Ho; iintro Ho
  iapply (wp_scatter d i) $$ Ho; iintro Ho
  iapply (wp_scatter d i) $$ Ho; iintro Ho
  iapply (wp_scatter d i) $$ Ho; iintro Ho
  iapply (wp_scatter d i) $$ Ho; iintro Ho
  iapply (wp_scatter d i) $$ Ho; iintro Ho
  iapply (wp_scatter d i) $$ Ho; iintro Ho
  rw [Upto.all (Upto.store hp7 hpv h7 _ (Upto.store hp6 hpv h6 _ (Upto.store hp5 hpv h5 _ (Upto.store hp4 hpv h4 _ (Upto.store hp3 hpv h3 _ (Upto.store hp2 hpv h2 _ (Upto.store hp1 hpv h1 _ (Upto.store hp0 hpv h0 _ hg))))))))]
  iapply Hk
  isplitl [Hr]; · iexact Hr
  iexact Ho

end Rule

end Cert.Proof.Tile

end
-- ==== Proof.Geometry.lean ====
/-
  Where the tile's transfers read and write: the printed offsets in closed form, the blocks of the result a tile
  writes, and what a fetch reads and a write-back leaves.
-/
module

public import proofs.«01_k».proof.Proof.Shuffle
public import Idealize.ShloMosaic.Lib.Pipeline.ValueKit.Geometry

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The printed offsets -/

/-- The tile's number. -/
def wk (i : grid0.Coords) : ℕ := 2 * (i 1).val + (i 0).val

/-- The first row step `t` of a tile fetches. -/
def srcRow (i : grid0.Coords) (t : ℕ) : ℕ := 16384 * (t / 4) + 512 * wk i + 128 * (t % 4)

/-- Where in the result step `t` of a tile writes. -/
def outOff (i : grid0.Coords) (t : ℕ) : Fin 3 → ℕ := ![t / 4, 0, 512 * wk i + 128 * (t % 4)]

theorem wk_lt (i : grid0.Coords) : wk i < 32 := by
  have h0 : (i 0).val < 2 := (i 0).isLt
  have h1 : (i 1).val < 16 := (i 1).isLt
  unfold wk; omega

theorem off1_0 : ∀ i : grid0.Coords, k0_off1 i 0#32 = ![srcRow i 0, 0] := by decide +kernel
theorem off1_1 : ∀ i : grid0.Coords, k0_off1 i 128#32 = ![srcRow i 1, 0] := by decide +kernel
theorem off4_at : ∀ (i : grid0.Coords) (k : Fin k0_t1_loop.trips), k0_off4 i k = outOff i (2 * k.val) := by decide +kernel
theorem off8_at : ∀ (i : grid0.Coords) (k : Fin k0_t1_loop.trips), k0_off8 i k = outOff i (2 * k.val + 1) := by decide +kernel
theorem off5_at : ∀ (i : grid0.Coords) (k : Fin k0_t1_loop.trips), k0_cond2 k = 1#1 → k0_off5 i k = ![srcRow i (2 * k.val + 2), 0] := by decide +kernel
theorem off9_at : ∀ (i : grid0.Coords) (k : Fin k0_t1_loop.trips), k0_cond4 k = 1#1 → k0_off9 i k = ![srcRow i (2 * k.val + 3), 0] := by decide +kernel
theorem cond1_iff : ∀ k : Fin k0_t1_loop.trips, k0_cond1 k = 1#1 ↔ 2 ≤ 2 * k.val := by decide +kernel
theorem cond2_iff : ∀ k : Fin k0_t1_loop.trips, k0_cond2 k = 1#1 ↔ 2 * k.val + 2 < 104 := by decide +kernel
theorem cond3_iff : ∀ k : Fin k0_t1_loop.trips, k0_cond3 k = 1#1 ↔ 2 ≤ 2 * k.val + 1 := by decide +kernel
theorem cond4_iff : ∀ k : Fin k0_t1_loop.trips, k0_cond4 k = 1#1 ↔ 2 * k.val + 1 + 2 < 104 := by decide +kernel

/-! ## The result's blocks -/

/-- The step that writes an element of the result. -/
def stepOf (x : S26x64x16384.Idx) : ℕ := 4 * (x 0).val + (x 2).val % 512 / 128

/-- The elements of the result tile number `w` writes. -/
def mine (w : ℕ) : Finset S26x64x16384.Idx := Finset.univ.filter fun x => (x 2).val / 512 = w
/-- Those it writes at step `t`, -/
def blk (w t : ℕ) : Finset S26x64x16384.Idx := Finset.univ.filter fun x => (x 2).val / 512 = w ∧ stepOf x = t
/-- before step `t`, -/
def done (w t : ℕ) : Finset S26x64x16384.Idx := Finset.univ.filter fun x => (x 2).val / 512 = w ∧ stepOf x < t
/-- and from step `t` on. -/
def todo (w t : ℕ) : Finset S26x64x16384.Idx := Finset.univ.filter fun x => (x 2).val / 512 = w ∧ t ≤ stepOf x

theorem stepOf_lt (x : S26x64x16384.Idx) : stepOf x < 104 := by
  have h0 : (x 0).val < 26 := (x 0).isLt
  unfold stepOf; omega

theorem done_zero (w : ℕ) : done w 0 = ∅ := by ext x; simp [done]
theorem done_all (w : ℕ) : done w 104 = mine w := Finset.filter_congr fun x _ => and_iff_left (stepOf_lt x)
theorem todo_zero (w : ℕ) : todo w 0 = mine w := by ext x; simp [todo, mine]
theorem todo_all (w : ℕ) : todo w 104 = ∅ := by
  refine Finset.filter_eq_empty_iff.mpr fun x _ h => ?_
  have := stepOf_lt x
  omega
theorem done_succ (w t : ℕ) : done w (t + 1) = done w t ∪ blk w t := by
  ext x; simp only [done, blk, Finset.mem_union, Finset.mem_filter, Finset.mem_univ, true_and]; omega
theorem todo_succ (w t : ℕ) : todo w t = blk w t ∪ todo w (t + 1) := by
  ext x; simp only [todo, blk, Finset.mem_union, Finset.mem_filter, Finset.mem_univ, true_and]; omega
theorem done_blk (w t : ℕ) : Disjoint (done w t) (blk w t) := by
  rw [Finset.disjoint_left]; intro x; simp only [done, blk, Finset.mem_filter, Finset.mem_univ, true_and]; omega
theorem blk_todo (w t : ℕ) : Disjoint (blk w t) (todo w (t + 1)) := by
  rw [Finset.disjoint_left]; intro x; simp only [todo, blk, Finset.mem_filter, Finset.mem_univ, true_and]; omega

/-! ## Values -/

/-- Element `e` of row `r` of the gathered rows. -/
def rowAt (r : Fin 425984) (e : Fin 64) : S425984x64.Idx := fun a => match a with | ⟨0, _⟩ => r | ⟨1, _⟩ => e

/-- The block step `t` of the tile at `i` fetches out of the rows `R`. -/
def fetched (R : S425984x64.Idx → Elt F .f32) (i : grid0.Coords) (t : ℕ) : S128x64.Idx → Elt F .f32 :=
  fun j => R (rowAt ⟨(srcRow i t + (j 0).val) % 425984, Nat.mod_lt _ (by decide)⟩ (j 1))

theorem outRow_lt (x : S26x64x16384.Idx) : 16384 * (x 0).val + (x 2).val < 425984 := by
  have h0 : (x 0).val < 26 := (x 0).isLt
  have h2 : (x 2).val < 16384 := (x 2).isLt
  omega

/-- The kernel's result, from the gathered rows `R`: rows `16384 f + b` for all `b`, transposed, as slab `f`. -/
def result (R : S425984x64.Idx → Elt F .f32) : S26x64x16384.Idx → Elt F .f32 :=
  fun x => R (rowAt ⟨16384 * (x 0).val + (x 2).val, outRow_lt x⟩ (x 1))

/-- What a fetch reads. -/
theorem read_rows (R : S425984x64.Idx → Elt F .f32) (i : grid0.Coords) (t : ℕ) {off : Fin 2 → ℕ} (hoff : off = ![srcRow i t, 0])
    (inb : ∀ a, off a + S128x64.size a ≤ S425984x64.size a) :
    (rowsM.slice (Rect.unit (s := S425984x64) off S128x64.size inb) (fun _ => rfl)).view.read (Elt F) R = fetched R i t := by
  subst hoff
  have hb := inb 0
  replace hb : srcRow i t + 128 ≤ 425984 := hb
  funext j
  have hj : (j 0).val < 128 := (j 0).isLt
  show R _ = R _
  congr 1
  funext a
  apply Fin.ext
  refine (ValueKit.view_emb_slice_whole_unit_val main_v8_scv _ _ inb j a).trans ?_
  match a with
  | ⟨0, _⟩ =>
    show srcRow i t + (j 0).val = (srcRow i t + (j 0).val) % 425984
    omega
  | ⟨1, _⟩ => show 0 + (j 1).val = (j 1).val; omega

/-- The view of the result a write-back goes through. -/
abbrev outView (off : Fin 3 → ℕ) (inb : ∀ a, off a + S1x64x128.size a ≤ S26x64x16384.size a) :
    Memref sig .scVector .hbm S64x128 .f32 :=
  (outM.slice (Rect.unit (s := S26x64x16384) off S1x64x128.size inb) (fun _ => rfl)).squeeze S64x128 squeezes_S1x64x128_S64x128

/-- Its elements are the step's. -/
theorem set_outView (i : grid0.Coords) (t : ℕ) {off : Fin 3 → ℕ} (hoff : off = outOff i t)
    (inb : ∀ a, off a + S1x64x128.size a ≤ S26x64x16384.size a) : (outView off inb).view.set = blk (wk i) t := by
  subst hoff
  have hi := wk_lt i
  have ht : t / 4 + 1 ≤ 26 := inb 0
  refine ((View.set_reshape _ _).trans (View.set_slice_whole main_v9_scv (Rect.unit (s := S26x64x16384) (outOff i t) S1x64x128.size inb))).trans ?_
  ext x
  rw [Rect.mem_set_unit]
  simp only [blk, Finset.mem_filter, Finset.mem_univ, true_and]
  have h0 : (x 0).val < 26 := (x 0).isLt
  have h1 : (x 1).val < 64 := (x 1).isLt
  have h2 : (x 2).val < 16384 := (x 2).isLt
  have hall : (∀ a, outOff i t a ≤ (x a).val ∧ (x a).val < outOff i t a + S1x64x128.size a)
      ↔ (t / 4 ≤ (x 0).val ∧ (x 0).val < t / 4 + 1) ∧ (0 ≤ (x 1).val ∧ (x 1).val < 0 + 64)
        ∧ (512 * wk i + 128 * (t % 4) ≤ (x 2).val ∧ (x 2).val < 512 * wk i + 128 * (t % 4) + 128) := by
    constructor
    · intro h; exact ⟨h 0, h 1, h 2⟩
    · rintro ⟨a0, a1, a2⟩ a
      match a with
      | ⟨0, _⟩ => exact a0
      | ⟨1, _⟩ => exact a1
      | ⟨2, _⟩ => exact a2
  refine hall.trans ?_
  unfold stepOf
  omega

/-- What a write-back of the transposed block leaves there. -/
theorem write_outView (R : S425984x64.Idx → Elt F .f32) (i : grid0.Coords) (t : ℕ) {off : Fin 3 → ℕ} (hoff : off = outOff i t)
    (inb : ∀ a, off a + S1x64x128.size a ≤ S26x64x16384.size a) (f : S26x64x16384.Idx → Elt F .f32) :
    ∀ x ∈ blk (wk i) t, (outView off inb).view.write (Elt F) f (tr (fetched R i t)) Finset.univ x = result R x := by
  intro x hx
  rw [← set_outView i t hoff inb] at hx
  obtain ⟨j, -, rfl⟩ := Finset.mem_map.1 hx
  refine (View.write_emb_of_mem _ _ (Finset.mem_univ j)).trans ?_
  subst hoff
  have hi := wk_lt i
  have ht : t / 4 + 1 ≤ 26 := inb 0
  have hj0 : (j 0).val < 64 := (j 0).isLt
  have hj1 : (j 1).val < 128 := (j 1).isLt
  have he : ∀ a : Fin 3, (((outView (outOff i t) inb).view.emb j a : Fin _) : ℕ) = outOff i t a + (![0, (j 0).val, (j 1).val] : Fin 3 → ℕ) a := by
    intro a
    show (((Rect.unit (s := S26x64x16384) (outOff i t) S1x64x128.size inb).emb (Shape.reshapeEquiv _ j) a : Fin _) : ℕ) = _
    rw [ValueKit.rect_emb_unit_val]
    congr 1
    refine (congrArg (fun y : S1x64x128.Idx => (y a).val) (Shape.reshapeEquiv_cons_one (d := ![64, 128]) squeezes_S1x64x128_S64x128.numel_eq j)).trans ?_
    match a with
    | ⟨0, _⟩ => rfl
    | ⟨1, _⟩ => rfl
    | ⟨2, _⟩ => rfl
  have h0 := he 0
  have h1 := he 1
  have h2 := he 2
  replace h0 : (((outView (outOff i t) inb).view.emb j 0 : Fin _) : ℕ) = t / 4 + 0 := h0
  replace h1 : (((outView (outOff i t) inb).view.emb j 1 : Fin _) : ℕ) = 0 + (j 0).val := h1
  replace h2 : (((outView (outOff i t) inb).view.emb j 2 : Fin _) : ℕ) = 512 * wk i + 128 * (t % 4) + (j 1).val := h2
  show R _ = R _
  congr 1
  funext a
  apply Fin.ext
  match a with
  | ⟨0, _⟩ =>
    show (srcRow i t + (j 1).val) % 425984 = 16384 * _ + _
    rw [h0, h2]
    unfold srcRow
    omega
  | ⟨1, _⟩ => exact (h1.trans (Nat.zero_add _)).symm

end Cert.Proof.Tile

end
-- ==== Proof.Moves.lean ====
/-
  The tile's transfers: a fetch of a block of rows, a write-back of a transposed block, and the waits that collect them.
-/
module

public import proofs.«01_k».proof.Proof.Geometry
public import Idealize.ShloMosaic.Lib.SparseCore.Scatter

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Rules
variable (d : Dev nD) (i : grid0.Coords)

/-- A transfer in flight that credits `N` on the cell `sm` and delivers `P`. -/
abbrev Fly (sm : DmaSem sig) (N : ℕ) (P : sProp 𝕄) : sProp 𝕄 :=
  Transfers.Flight EC (tl d i) (.dma sm) (default : HIx 1) N P

/-- What a tile that began by owing `O` with `W` waited for holds after some more waits of its own. -/
def Owing (O : CellTallies nD τ sig (HIx 1)) (W : Waits sig (HIx 1)) : sProp 𝕄 :=
  iprop(∃ W', ⌜∀ p ∈ W', p ∈ W ∨ p.2 = none⌝ ∗ owes (tl d i) O W')

/-- The credit of a fetch into `rb`, -/
abbrev creditIn (rb : Memref sig .scVector .vmem S128x64 .f32) : ℕ := rb.view.dmaCredit
/-- and of a write-back. -/
abbrev creditOut : ℕ := (main_v9_scv : Ref sig .scVector).dmaCredit S64x128 .f32

variable [FloatOps F] {α : Type}

/-- The fetch of step `t` into `rb`. -/
theorem wp_fetch (t : ℕ) {off : Fin 2 → ℕ} (hoff : off = ![srcRow i t, 0])
    (inb : ∀ a, off a + S128x64.size a ≤ S425984x64.size a) {rb : Memref sig .scVector .vmem S128x64 .f32} {sm : DmaSem sig}
    {hsrc : (rowsM.slice (Rect.unit (s := S425984x64) off S128x64.size inb) (fun _ => rfl)).view.WordExact} {hdst : rb.view.WordExact}
    {hsem : DmaTarget.Typed (nD := nD) .hbm (.dma sm) (DmaTarget.here (p := (tl d i).2) rb)} {q : PosShare TreeShare} {R : S425984x64.Idx → Elt F .f32}
    {X : S128x64.Idx → Elt F .f32} {k : PUnit → TProg (F := F) i α} {Q : α → sProp 𝕄} :
    iprop(owns (tl d i) rb fullShare X ∗ (rowsLoc d ↦{q} R) ∗ semVal (tl d i, .dma sm) 0)
      ⊢ iprop((Fly d i sm (creditIn rb) iprop(owns (tl d i) rb fullShare (fetched R i t) ∗ (rowsLoc d ↦{q} R)) -∗ twp d i (k ⟨⟩) Q)
        -∗ twp d i (Prog.lift (.enqueueDma (rowsM.slice (Rect.unit (s := S425984x64) off S128x64.size inb) (fun _ => rfl)) (.here rb)
            (.dma sm) hsrc hdst hsem) >>= k) Q) := by
  have hread := read_rows R i t hoff inb
  have hmono (f : Buf (Elt F) (rb.view.loc (tl d i))) :
      Fly d i sm (creditIn rb) iprop((rowsLoc d ↦[Finset.univ \ (rowsM.slice (Rect.unit (s := S425984x64) off S128x64.size inb) (fun _ => rfl)).view.set]{q} R)
        ∗ (rb.view.loc (tl d i) ↦[rb.view.set]{fullShare} rb.view.write (Elt F) f
            ((rowsM.slice (Rect.unit (s := S425984x64) off S128x64.size inb) (fun _ => rfl)).view.read (Elt F) R) Finset.univ)
        ∗ (rowsLoc d ↦[(rowsM.slice (Rect.unit (s := S425984x64) off S128x64.size inb) (fun _ => rfl)).view.set]{q} R))
      ⊢ Fly d i sm (creditIn rb) iprop(owns (tl d i) rb fullShare (fetched R i t) ∗ (rowsLoc d ↦{q} R)) := by
    refine Transfers.Flight_mono EC (tl d i) ?_
    unfold owns
    iintro ⟨Hrest, Hb, Hr⟩
    isplitl [Hb]
    · iexists _
      isplitr
      rotate_left
      · iexact Hb
      · ipureintro
        rw [View.read_write_univ]
        exact hread
    · iapply (pointsTo_split_subset (ℓ := rowsLoc d) (q := q) (f := R) (Finset.subset_univ
        (rowsM.slice (Rect.unit (s := S425984x64) off S128x64.size inb) (fun _ => rfl)).view.set)).2
      isplitl [Hr] <;> iassumption
  unfold owns at hmono ⊢
  iintro ⟨⟨%f, -, Hb⟩, Hr, Hv⟩ Hk
  ihave Hr := (pointsTo_split_subset (ℓ := rowsLoc d) (q := q) (f := R) (Finset.subset_univ
    (rowsM.slice (Rect.unit (s := S425984x64) off S128x64.size inb) (fun _ => rfl)).view.set)).1 $$ Hr
  icases Hr with ⟨Hr, Hrest⟩
  iapply (Transfers.wp_dmaLocal EC 𝒱₀ (tl d i) none (src := rowsM.slice (Rect.unit (s := S425984x64) off S128x64.size inb) (fun _ => rfl))
    (dst := rb) (q := q) (fs := R) (fd := f) (default : HIx 1) (creditIn rb) rfl
    (View.amount_pos _ (.dma sm) (show 0 < S128x64.numel by decide)) (Finset.Subset.refl _)) $$ [Hb Hr Hv]
  · isplitl [Hr]; · iexact Hr
    isplitl [Hb] <;> iassumption
  iintro Hf
  iapply Hk
  iapply (hmono f)
  iapply (Transfers.Flight_frame EC (tl d i) (R := rowsLoc d ↦[Finset.univ \ (rowsM.slice (Rect.unit (s := S425984x64) off S128x64.size inb) (fun _ => rfl)).view.set]{q} R))
  isplitl [Hrest] <;> iassumption

/-- The write-back of step `t` out of `ob`. -/
theorem wp_writeback (t : ℕ) {off : Fin 3 → ℕ} (hoff : off = outOff i t)
    (inb : ∀ a, off a + S1x64x128.size a ≤ S26x64x16384.size a) {ob : Memref sig .scVector .vmem S64x128 .f32} {sm : DmaSem sig}
    {hsrc : ob.view.WordExact} {hdst : (outView off inb).view.WordExact}
    {hsem : DmaTarget.Typed (nD := nD) .vmem (.dma sm) (DmaTarget.here (p := (tl d i).2) (outView off inb))} {R : S425984x64.Idx → Elt F .f32}
    {f : S26x64x16384.Idx → Elt F .f32} {k : PUnit → TProg (F := F) i α} {Q : α → sProp 𝕄} :
    iprop(owns (tl d i) ob fullShare (tr (fetched R i t)) ∗ (outLoc d ↦[blk (wk i) t]{fullShare} f) ∗ semVal (tl d i, .dma sm) 0)
      ⊢ iprop((Fly d i sm creditOut iprop(owns (tl d i) ob fullShare (tr (fetched R i t)) ∗ (outLoc d ↦[blk (wk i) t]{fullShare} result R))
          -∗ twp d i (k ⟨⟩) Q)
        -∗ twp d i (Prog.lift (.enqueueDma ob (.here (outView off inb)) (.dma sm) hsrc hdst hsem) >>= k) Q) := by
  have hset := set_outView i t hoff inb
  have hmono (fs : Buf (Elt F) (ob.view.loc (tl d i))) (hfs : ob.view.read (Elt F) fs = tr (fetched R i t)) :
      Fly d i sm creditOut iprop((outLoc d ↦[blk (wk i) t]{fullShare} ((outView off inb).view.write (Elt F) f (ob.view.read (Elt F) fs) Finset.univ))
        ∗ (ob.view.loc (tl d i) ↦[ob.view.set]{fullShare} fs))
      ⊢ Fly d i sm creditOut iprop(owns (tl d i) ob fullShare (tr (fetched R i t)) ∗ (outLoc d ↦[blk (wk i) t]{fullShare} result R)) := by
    refine Transfers.Flight_mono EC (tl d i) ?_
    have hw : (outLoc d ↦[blk (wk i) t]{fullShare} ((outView off inb).view.write (Elt F) f (tr (fetched R i t)) Finset.univ) : sProp 𝕄)
        = (outLoc d ↦[blk (wk i) t]{fullShare} result R) := pointsTo_congr (write_outView R i t hoff inb f)
    rw [hfs, ← hw]
    unfold owns
    iintro ⟨Ho, Hb⟩
    isplitl [Hb]
    · iexists _
      isplitr
      rotate_left
      · iexact Hb
      · ipureintro; exact hfs
    · iexact Ho
  unfold owns at hmono ⊢
  iintro ⟨⟨%fs, %hfs, Hb⟩, Ho, Hv⟩ Hk
  iapply (Transfers.wp_dmaLocal EC 𝒱₀ (tl d i) none (src := ob)
    (dst := outView off inb) (q := fullShare) (fs := fs) (Sd := blk (wk i) t) (fd := f) (default : HIx 1) creditOut rfl
    (View.amount_pos (outView off inb).view (.dma sm) (show 0 < S64x128.numel by decide)) (Finset.subset_of_eq hset)) $$ [Hb Ho Hv]
  · isplitl [Hb]; · iexact Hb
    isplitl [Ho] <;> iassumption
  iintro Hf
  iapply Hk
  iapply (hmono fs hfs) $$ Hf

/-- The wait that collects a transfer. -/
theorem wp_collect {s : Shape} {e : EltTy} {sp sp' : Space} {s' : Shape} {e' : EltTy} {sm : DmaSem sig} {N : ℕ} {P : sProp 𝕄}
    {srcw : Memref sig .scVector sp' s' e'} {dstw : Memref sig .scVector sp s e} {hsrc : srcw.view.WordExact} {hdst : dstw.view.WordExact}
    (hN : dstw.view.dmaCredit = N) {O : CellTallies nD τ sig (HIx 1)} {W : Waits sig (HIx 1)}
    {k : PUnit → TProg (F := F) i α} {Q : α → sProp 𝕄} :
    iprop(Fly d i sm N P ∗ Owing d i O W ∗ Transfers.MayWaits (tl d i) (default : HIx 1) O)
      ⊢ iprop((iprop(P ∗ semVal (tl d i, .dma sm) 0 ∗ Owing d i O W) -∗ twp d i (k ⟨⟩) Q)
        -∗ twp d i (Prog.lift (.waitDma2 sm srcw dstw hsrc hdst) >>= k) Q) := by
  unfold Owing
  iintro ⟨Hf, ⟨%W', %hW, HO⟩, Hmw⟩ Hk
  ihave Hmw := (Transfers.MayWaits.elim (SemLoc.dma sm)) $$ Hmw
  iapply (Transfers.wp_waitLocalO EC 𝒱₀ (tl d i) none (default : HIx 1) hN) $$ [Hf HO Hmw]
  · isplitl [Hf]; · iexact Hf
    isplitl [HO] <;> iassumption
  iintro ⟨HP, Hv, HO⟩
  iapply Hk
  isplitl [HP]; · iexact HP
  isplitl [Hv]; · iexact Hv
  iexists _
  isplitr
  rotate_left
  · iexact HO
  · ipureintro
    intro p hp
    rcases Finset.mem_insert.mp hp with rfl | hp
    · exact .inr rfl
    · exact hW p hp

/-- A piece of the program, then the rest. -/
theorem wp_seq {β : Type} {p : TProg (F := F) i β} {A B : sProp 𝕄} (h : A ⊢ twp d i p fun _ => B) {k : β → TProg (F := F) i α} {Q : α → sProp 𝕄} :
    A ⊢ iprop((∀ b, B -∗ twp d i (k b) Q) -∗ twp d i (p >>= k) Q) := by
  unfold twp at h ⊢
  rw [wp_bind]
  iintro HA Hk
  ihave H := h $$ HA
  iapply (wp_wand_r frame _ _) $$ [H Hk]
  isplitl [H] <;> iassumption

end Rules

end Cert.Proof.Tile

end
-- ==== Proof.Slots.lean ====
/-
  What the tile's buffers hold between its steps, and the rules of the four transfers of a step over that.
-/
module

public import proofs.«01_k».proof.Proof.Moves

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Slot
variable (d : Dev nD) (i : grid0.Coords)

/-- A fetch buffer before step `t`, one of its own: the step's block is on its way, or there is no such step. -/
def Inward (rb : Memref sig .scVector .vmem S128x64 .f32) (sm : DmaSem sig) (q : PosShare TreeShare) (R : S425984x64.Idx → Elt F .f32) (t : ℕ) :
    sProp 𝕄 :=
  if t < 104 then Fly d i sm (creditIn rb) iprop(owns (tl d i) rb fullShare (fetched R i t) ∗ (rowsLoc d ↦{q} R))
  else iprop((∃ X, owns (tl d i) rb fullShare X) ∗ (rowsLoc d ↦{q} R) ∗ semVal (tl d i, .dma sm) 0)

/-- A write-back buffer before step `t`, one of its own: the block of two steps before is on its way out, or there is none. -/
def Outward (ob : Memref sig .scVector .vmem S64x128 .f32) (sm : DmaSem sig) (R : S425984x64.Idx → Elt F .f32) (t : ℕ) : sProp 𝕄 :=
  if 2 ≤ t then Fly d i sm creditOut iprop(owns (tl d i) ob fullShare (tr (fetched R i (t - 2))) ∗ (outLoc d ↦[blk (wk i) (t - 2)]{fullShare} result R))
  else iprop((∃ X, owns (tl d i) ob fullShare X) ∗ semVal (tl d i, .dma sm) 0)

/-- The blocks collected before step `t`. -/
def Got (R : S425984x64.Idx → Elt F .f32) (t : ℕ) : sProp 𝕄 := iprop(outLoc d ↦[done (wk i) (t - 2)]{fullShare} result R)
/-- The blocks not yet begun before step `t`. -/
def Rest (f : S26x64x16384.Idx → Elt F .f32) (t : ℕ) : sProp 𝕄 := iprop(outLoc d ↦[todo (wk i) t]{fullShare} f)

variable [FloatOps F] {α : Type}
variable {rb : Memref sig .scVector .vmem S128x64 .f32} {ob : Memref sig .scVector .vmem S64x128 .f32} {sm : DmaSem sig}
variable {q : PosShare TreeShare} {R : S425984x64.Idx → Elt F .f32} {f : S26x64x16384.Idx → Elt F .f32}
variable {O : CellTallies nD τ sig (HIx 1)} {W : Waits sig (HIx 1)}

omit [FloatOps F] in
theorem in_of_fly {t : ℕ} (h : t < 104) :
    Fly d i sm (creditIn rb) iprop(owns (tl d i) rb fullShare (fetched R i t) ∗ (rowsLoc d ↦{q} R)) ⊢ Inward d i rb sm q R t := by
  unfold Inward; rw [if_pos h]

/-- The wait for step `t`'s block. -/
theorem wp_take {k : PUnit → TProg (F := F) i α} {Q : α → sProp 𝕄}
    {t : ℕ} (ht : t < 104) {sp' : Space} {s' : Shape} {e' : EltTy} {srcw : Memref sig .scVector sp' s' e'}
    {hsrc : srcw.view.WordExact} {hdst : rb.view.WordExact} :
    iprop(Inward d i rb sm q R t ∗ Owing d i O W ∗ Transfers.MayWaits (tl d i) (default : HIx 1) O)
      ⊢ iprop((iprop(owns (tl d i) rb fullShare (fetched R i t) ∗ (rowsLoc d ↦{q} R) ∗ semVal (tl d i, .dma sm) 0 ∗ Owing d i O W)
          -∗ twp d i (k ⟨⟩) Q)
        -∗ twp d i (Prog.lift (.waitDma2 sm srcw rb hsrc hdst) >>= k) Q) := by
  unfold Inward
  rw [if_pos ht]
  iintro H Hk
  iapply (wp_collect d i rfl) $$ H
  iintro ⟨⟨Hb, Hr⟩, Hv, HO⟩
  iapply Hk
  isplitl [Hb]; · iexact Hb
  isplitl [Hr]; · iexact Hr
  isplitl [Hv] <;> iassumption

/-- The wait for the block of two steps before step `t`. -/
theorem wp_drain {k : PUnit → TProg (F := F) i α} {Q : α → sProp 𝕄}
    {t : ℕ} (ht : 2 ≤ t) {sp' : Space} {s' : Shape} {e' : EltTy} {srcw : Memref sig .scVector sp' s' e'}
    {off : Fin 3 → ℕ} {inb : ∀ a, off a + S1x64x128.size a ≤ S26x64x16384.size a}
    {hsrc : srcw.view.WordExact} {hdst : (outView off inb).view.WordExact} :
    iprop(Outward d i ob sm R t ∗ Got d i R t ∗ Owing d i O W ∗ Transfers.MayWaits (tl d i) (default : HIx 1) O)
      ⊢ iprop((iprop((∃ X, owns (tl d i) ob fullShare X) ∗ semVal (tl d i, .dma sm) 0 ∗ Got d i R (t + 1) ∗ Owing d i O W)
          -∗ twp d i (k ⟨⟩) Q)
        -∗ twp d i (Prog.lift (.waitDma2 sm srcw (outView off inb) hsrc hdst) >>= k) Q) := by
  unfold Outward Got
  rw [if_pos ht, show t + 1 - 2 = (t - 2) + 1 by omega, done_succ]
  iintro ⟨Hf, Hd, HO, Hmw⟩ Hk
  iapply (wp_collect d i rfl) $$ [Hf HO Hmw]
  · isplitl [Hf]; · iexact Hf
    isplitl [HO] <;> iassumption
  iintro ⟨⟨Hb, Ho⟩, Hv, HO⟩
  iapply Hk
  isplitl [Hb]; · iexists _; iexact Hb
  isplitl [Hv]; · iexact Hv
  isplitl [Hd Ho]
  · iapply (pointsTo_union (done_blk (wk i) (t - 2))).2
    isplitl [Hd] <;> iassumption
  iexact HO

omit [FloatOps F] in
theorem drain_skip {t : ℕ} (ht : ¬ 2 ≤ t) :
    iprop(Outward d i ob sm R t ∗ Got d i R t)
      ⊢ (iprop((∃ X, owns (tl d i) ob fullShare X) ∗ semVal (tl d i, .dma sm) 0 ∗ Got d i R (t + 1)) : sProp 𝕄) := by
  unfold Outward Got
  rw [if_neg ht, show t + 1 - 2 = t - 2 by omega]
  iintro ⟨⟨Hb, Hv⟩, Hd⟩
  isplitl [Hb]; · iexact Hb
  isplitl [Hv] <;> iassumption

/-- The write-back of step `t`. -/
theorem wp_put {k : PUnit → TProg (F := F) i α} {Q : α → sProp 𝕄}
    (t : ℕ) {off : Fin 3 → ℕ} (hoff : off = outOff i t)
    {inb : ∀ a, off a + S1x64x128.size a ≤ S26x64x16384.size a} {hsrc : ob.view.WordExact} {hdst : (outView off inb).view.WordExact}
    {hsem : DmaTarget.Typed (nD := nD) .vmem (.dma sm) (DmaTarget.here (p := (tl d i).2) (outView off inb))} :
    iprop(owns (tl d i) ob fullShare (tr (fetched R i t)) ∗ Rest d i f t ∗ semVal (tl d i, .dma sm) 0)
      ⊢ iprop((iprop(Outward d i ob sm R (t + 2) ∗ Rest d i f (t + 1)) -∗ twp d i (k ⟨⟩) Q)
        -∗ twp d i (Prog.lift (.enqueueDma ob (.here (outView off inb)) (.dma sm) hsrc hdst hsem) >>= k) Q) := by
  unfold Outward Rest
  rw [if_pos (Nat.le_add_left 2 t), Nat.add_sub_cancel, todo_succ]
  iintro ⟨Hb, Hr, Hv⟩ Hk
  ihave Hr := (pointsTo_union (blk_todo (wk i) t)).1 $$ Hr
  icases Hr with ⟨Ho, Hr⟩
  iapply (wp_writeback d i t hoff inb) $$ [Hb Ho Hv]
  · isplitl [Hb]; · iexact Hb
    isplitl [Ho] <;> iassumption
  iintro Hf
  iapply Hk
  isplitl [Hf] <;> iassumption

/-- The fetch of step `t`. -/
theorem wp_fill {k : PUnit → TProg (F := F) i α} {Q : α → sProp 𝕄}
    (t : ℕ) (ht : t < 104) {off : Fin 2 → ℕ} (hoff : off = ![srcRow i t, 0])
    {inb : ∀ a, off a + S128x64.size a ≤ S425984x64.size a}
    {hsrc : (rowsM.slice (Rect.unit (s := S425984x64) off S128x64.size inb) (fun _ => rfl)).view.WordExact} {hdst : rb.view.WordExact}
    {hsem : DmaTarget.Typed (nD := nD) .hbm (.dma sm) (DmaTarget.here (p := (tl d i).2) rb)} {X : S128x64.Idx → Elt F .f32} :
    iprop(owns (tl d i) rb fullShare X ∗ (rowsLoc d ↦{q} R) ∗ semVal (tl d i, .dma sm) 0)
      ⊢ iprop((Inward d i rb sm q R t -∗ twp d i (k ⟨⟩) Q)
        -∗ twp d i (Prog.lift (.enqueueDma (rowsM.slice (Rect.unit (s := S425984x64) off S128x64.size inb) (fun _ => rfl)) (.here rb)
            (.dma sm) hsrc hdst hsem) >>= k) Q) := by
  unfold Inward
  rw [if_pos ht]
  exact wp_fetch d i t hoff inb

omit [FloatOps F] in
theorem fill_skip {t : ℕ} (ht : ¬ t < 104) {X : S128x64.Idx → Elt F .f32} :
    iprop(owns (tl d i) rb fullShare X ∗ (rowsLoc d ↦{q} R) ∗ semVal (tl d i, .dma sm) 0) ⊢ (Inward d i rb sm q R t : sProp 𝕄) := by
  unfold Inward
  rw [if_neg ht]
  iintro ⟨Hb, H⟩
  isplitl [Hb]; · iexists _; iexact Hb
  iexact H

end Slot

end Cert.Proof.Tile

end
-- ==== Proof.Body.lean ====
/-
  The tile's body: one trip of the loop, the whole program.
-/
module

public import proofs.«01_k».proof.Proof.Slots

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The two transpositions of a trip, as one program -/

section Pieces
variable [FloatOps F] (i : grid0.Coords) (arg2 : Memref sig .scVector .hbm S425984x64 .f32) (harg2 : arg2.IsWhole) (arg3 : Memref sig .scVector .hbm S26x64x16384 .f32) (harg3 : arg3.IsWhole)
variable (arg4 : Memref sig .scVector .vmem S128x64 .f32) (harg4 : arg4.IsWhole) (arg5 : Memref sig .scVector .vmem S128x64 .f32) (harg5 : arg5.IsWhole)
variable (arg6 : Memref sig .scVector .vmem S64x128 .f32) (harg6 : arg6.IsWhole) (arg7 : Memref sig .scVector .vmem S64x128 .f32) (harg7 : arg7.IsWhole)
variable (arg8 : DmaSems sig S_) (arg9 : DmaSems sig S_) (arg10 : DmaSems sig S_) (arg11 : DmaSems sig S_)
variable (v1 : BitVec 32) (v2 : IVec S16 32) (n : Fin k0_t1_loop.trips)

theorem part2_first (v31 c : BitVec 32) (h : ¬ k0_cond1 n = 1#1) :
    k0_part2_skel (F := F) i arg2 harg2 arg3 harg3 arg4 harg4 arg5 harg5 arg6 harg6 arg7 harg7 arg8 arg9 arg10 arg11 v1 v2 n v31 c
      = shuffle i arg4 arg6 (k0_pay1 v2) (k0_pay2 v2) (k0_pay3 v2) (k0_pay4 v2) (k0_pay5 v2) (k0_pay6 v2) (k0_pay7 v2) (k0_pay8 v2)
          (pure ⟨4#32, Scalar.divsi v31 4#32⟩) :=
  (dif_neg h).trans rfl

theorem part2_later (v31 c : BitVec 32) (h : k0_cond1 n = 1#1) :
    k0_part2_skel (F := F) i arg2 harg2 arg3 harg3 arg4 harg4 arg5 harg5 arg6 harg6 arg7 harg7 arg8 arg9 arg10 arg11 v1 v2 n v31 c
      = (Prog.lift (.waitDma2 arg10.sem arg6 ((arg3.slice (Rect.unit (s := S26x64x16384) (k0_off3 i n) S1x64x128.size (k0_off3_inb i n h)) (fun _ => rfl)).squeeze
          S64x128 squeezes_S1x64x128_S64x128) harg6.wordExact ((View.wordExact_bits rfl).reshape _ _)) >>= fun _ =>
        shuffle i arg4 arg6 (k0_pay1 v2) (k0_pay2 v2) (k0_pay3 v2) (k0_pay4 v2) (k0_pay5 v2) (k0_pay6 v2) (k0_pay7 v2) (k0_pay8 v2)
          (pure ⟨4#32, Scalar.divsi v31 4#32⟩)) :=
  (dif_pos h).trans rfl

theorem part5_first (v139 v176 : BitVec 32) (h : ¬ k0_cond3 n = 1#1) :
    k0_part5_skel (F := F) i arg2 harg2 arg3 harg3 arg4 harg4 arg5 harg5 arg6 harg6 arg7 harg7 arg8 arg9 arg10 arg11 v1 v2 n v139 v176
      = shuffle i arg5 arg7 (k0_pay1 v2) (k0_pay2 v2) (k0_pay3 v2) (k0_pay4 v2) (k0_pay5 v2) (k0_pay6 v2) (k0_pay7 v2) (k0_pay8 v2)
          (pure ⟨4#32, Scalar.divsi v139 4#32, Scalar.cmpi .sgt v139 0#32⟩) :=
  (dif_neg h).trans rfl

theorem part5_later (v139 v176 : BitVec 32) (h : k0_cond3 n = 1#1) :
    k0_part5_skel (F := F) i arg2 harg2 arg3 harg3 arg4 harg4 arg5 harg5 arg6 harg6 arg7 harg7 arg8 arg9 arg10 arg11 v1 v2 n v139 v176
      = (Prog.lift (.waitDma2 arg11.sem arg7 ((arg3.slice (Rect.unit (s := S26x64x16384) (k0_off7 i n) S1x64x128.size (k0_off7_inb i n h)) (fun _ => rfl)).squeeze
          S64x128 squeezes_S1x64x128_S64x128) harg7.wordExact ((View.wordExact_bits rfl).reshape _ _)) >>= fun _ =>
        shuffle i arg5 arg7 (k0_pay1 v2) (k0_pay2 v2) (k0_pay3 v2) (k0_pay4 v2) (k0_pay5 v2) (k0_pay6 v2) (k0_pay7 v2) (k0_pay8 v2)
          (pure ⟨4#32, Scalar.divsi v139 4#32, Scalar.cmpi .sgt v139 0#32⟩)) :=
  (dif_pos h).trans rfl

end Pieces

/-! ## The steps -/

section Trip
variable [FloatOps F] (d : Dev nD) (i : grid0.Coords)

/-- The two fetch buffers and the two write-back buffers. -/
abbrev rb0 : Memref sig .scVector .vmem S128x64 .f32 := Memref.whole cc0_scratch0
abbrev rb1 : Memref sig .scVector .vmem S128x64 .f32 := Memref.whole cc0_scratch1
abbrev ob0 : Memref sig .scVector .vmem S64x128 .f32 := Memref.whole cc0_scratch2
abbrev ob1 : Memref sig .scVector .vmem S64x128 .f32 := Memref.whole cc0_scratch3

/-- The transposition by the program's own lane vectors, one buffer pair at a time. -/
theorem wp_transpose {α : Type} (rb : Memref sig .scVector .vmem S128x64 .f32) (ob : Memref sig .scVector .vmem S64x128 .f32)
    (r : S128x64.Idx → Elt F .f32) (kk : TProg (F := F) i α) (Q : α → sProp 𝕄) :
    iprop(owns (tl d i) rb fullShare r ∗ (∃ g, owns (tl d i) ob fullShare g))
      ⊢ iprop((iprop(owns (tl d i) rb fullShare r ∗ owns (tl d i) ob fullShare (tr r)) -∗ twp d i kk Q)
        -∗ twp d i (shuffle i rb ob (k0_pay1 lanes0) (k0_pay2 lanes0) (k0_pay3 lanes0) (k0_pay4 lanes0) (k0_pay5 lanes0) (k0_pay6 lanes0)
            (k0_pay7 lanes0) (k0_pay8 lanes0) kk) Q) := by
  iintro ⟨Hr, ⟨%g, Ho⟩⟩ Hk
  iapply (wp_shuffle d i rb ob r _ _ _ _ _ _ _ _ (lanes_add 0#32 0 rfl (by decide)) (lanes_add 16#32 1 rfl (by decide))
    (lanes_add 32#32 2 rfl (by decide)) (lanes_add 48#32 3 rfl (by decide)) (lanes_add 64#32 4 rfl (by decide))
    (lanes_add 80#32 5 rfl (by decide)) (lanes_add 96#32 6 rfl (by decide)) (lanes_add 112#32 7 rfl (by decide)) kk Q g) $$ [Hr Ho]
  · isplitl [Hr] <;> iassumption
  iexact Hk

variable (q : PosShare TreeShare) (R : S425984x64.Idx → Elt F .f32) (f : S26x64x16384.Idx → Elt F .f32)
variable (O : CellTallies nD τ sig (HIx 1)) (W : Waits sig (HIx 1)) (n : Fin k0_t1_loop.trips)

theorem trips_lt : n.val < 52 := lt_of_lt_of_le n.isLt k0_t1_abs.2.1

/-- The wait for the first slot's block. -/
theorem wp_part1 (v1 c0 c1 : BitVec 32) :
    iprop(Inward d i rb0 cc0_scratch4.sem q R (2 * n.val) ∗ Owing d i O W ∗ Transfers.MayWaits (tl d i) (default : HIx 1) O)
      ⊢ twp d i (k0_part1 i rowsM (Memref.isWhole_whole _) outM (Memref.isWhole_whole _) rb0 (Memref.isWhole_whole _) rb1 (Memref.isWhole_whole _) ob0 (Memref.isWhole_whole _) ob1 (Memref.isWhole_whole _) cc0_scratch4 cc0_scratch5 cc0_scratch6 cc0_scratch7 v1 c0 c1 n)
        fun _ => iprop(owns (tl d i) rb0 fullShare (fetched R i (2 * n.val)) ∗ (rowsLoc d ↦{q} R) ∗ semVal (tl d i, .dma cc0_scratch4.sem) 0
          ∗ Owing d i O W) := by
  have hn := trips_lt n
  simp only [k0_part1_eq_skeleton]
  unfold k0_part1_skel
  iintro H
  iapply (wp_take d i (show 2 * n.val < 104 by omega)) $$ H
  iintro H
  unfold twp
  rw [wp_pure]
  imodintro
  iexact H

/-- The first slot's write-back buffer is free again, and takes the transposed block. -/
theorem wp_part2 (v1 v31 c : BitVec 32) :
    iprop(owns (tl d i) rb0 fullShare (fetched R i (2 * n.val)) ∗ Outward d i ob0 cc0_scratch6.sem R (2 * n.val) ∗ Got d i R (2 * n.val)
        ∗ Owing d i O W ∗ Transfers.MayWaits (tl d i) (default : HIx 1) O)
      ⊢ twp d i (k0_part2 i rowsM (Memref.isWhole_whole _) outM (Memref.isWhole_whole _) rb0 (Memref.isWhole_whole _) rb1 (Memref.isWhole_whole _) ob0 (Memref.isWhole_whole _) ob1 (Memref.isWhole_whole _) cc0_scratch4 cc0_scratch5 cc0_scratch6 cc0_scratch7 v1 lanes0 n v31 c)
        fun _ => iprop(owns (tl d i) rb0 fullShare (fetched R i (2 * n.val)) ∗ owns (tl d i) ob0 fullShare (tr (fetched R i (2 * n.val)))
          ∗ semVal (tl d i, .dma cc0_scratch6.sem) 0 ∗ Got d i R (2 * n.val + 1) ∗ Owing d i O W) := by
  simp only [k0_part2_eq_skeleton]
  by_cases hc : k0_cond1 n = 1#1
  · rw [part2_later (h := hc)]
    iintro ⟨Hr, Ho, Hd, HO, Hmw⟩
    iapply (wp_drain d i ((cond1_iff n).1 hc)) $$ [Ho Hd HO Hmw]
    · isplitl [Ho]; · iexact Ho
      isplitl [Hd]; · iexact Hd
      isplitl [HO] <;> iassumption
    iintro ⟨Ho, Hv, Hd, HO⟩
    iapply (wp_transpose d i rb0 ob0 (fetched R i (2 * n.val))) $$ [Hr Ho]
    · isplitl [Hr] <;> iassumption
    iintro ⟨Hr, Ho⟩
    unfold twp
    rw [wp_pure]
    imodintro
    isplitl [Hr]; · iexact Hr
    isplitl [Ho]; · iexact Ho
    isplitl [Hv]; · iexact Hv
    isplitl [Hd] <;> iassumption
  · rw [part2_first (h := hc)]
    iintro ⟨Hr, Ho, Hd, HO, -⟩
    ihave Ho := (drain_skip d i (fun h => hc ((cond1_iff n).2 h))) $$ [Ho Hd]
    · isplitl [Ho] <;> iassumption
    icases Ho with ⟨Ho, Hv, Hd⟩
    iapply (wp_transpose d i rb0 ob0 (fetched R i (2 * n.val))) $$ [Hr Ho]
    · isplitl [Hr] <;> iassumption
    iintro ⟨Hr, Ho⟩
    unfold twp
    rw [wp_pure]
    imodintro
    isplitl [Hr]; · iexact Hr
    isplitl [Ho]; · iexact Ho
    isplitl [Hv]; · iexact Hv
    isplitl [Hd] <;> iassumption

/-- The first slot's block goes out, and its next one is asked for. -/
theorem wp_part3 (v1 v31 c v99 : BitVec 32) :
    iprop(owns (tl d i) rb0 fullShare (fetched R i (2 * n.val)) ∗ (rowsLoc d ↦{q} R) ∗ semVal (tl d i, .dma cc0_scratch4.sem) 0
        ∗ owns (tl d i) ob0 fullShare (tr (fetched R i (2 * n.val))) ∗ Rest d i f (2 * n.val) ∗ semVal (tl d i, .dma cc0_scratch6.sem) 0)
      ⊢ twp d i (k0_part3 i rowsM (Memref.isWhole_whole _) outM (Memref.isWhole_whole _) rb0 (Memref.isWhole_whole _) rb1 (Memref.isWhole_whole _) ob0 (Memref.isWhole_whole _) ob1 (Memref.isWhole_whole _) cc0_scratch4 cc0_scratch5 cc0_scratch6 cc0_scratch7 v1 n v31 c v99)
        fun _ => iprop(Inward d i rb0 cc0_scratch4.sem q R (2 * n.val + 2) ∗ Outward d i ob0 cc0_scratch6.sem R (2 * n.val + 2)
          ∗ Rest d i f (2 * n.val + 1)) := by
  simp only [k0_part3_eq_skeleton]
  unfold k0_part3_skel
  iintro ⟨Hb, Hr, Hv, Ho, Hrest, Hv'⟩
  iapply (wp_put d i (2 * n.val) (off4_at i n)) $$ [Ho Hrest Hv']
  · isplitl [Ho]; · iexact Ho
    isplitl [Hrest] <;> iassumption
  iintro ⟨Ho, Hrest⟩
  by_cases hc : k0_cond2 n = 1#1
  · rw [dif_pos hc]
    iapply (wp_fill d i (2 * n.val + 2) ((cond2_iff n).1 hc) (off5_at i n hc)) $$ [Hb Hr Hv]
    · isplitl [Hb]; · iexact Hb
      isplitl [Hr] <;> iassumption
    iintro Hb
    unfold twp
    rw [wp_pure]
    imodintro
    isplitl [Hb]; · iexact Hb
    isplitl [Ho] <;> iassumption
  · rw [dif_neg hc]
    ihave Hb := (fill_skip d i (fun h => hc ((cond2_iff n).2 h))) $$ [Hb Hr Hv]
    · isplitl [Hb]; · iexact Hb
      isplitl [Hr] <;> iassumption
    unfold twp
    rw [wp_pure]
    imodintro
    isplitl [Hb]; · iexact Hb
    isplitl [Ho] <;> iassumption

/-- The wait for the second slot's block. -/
theorem wp_part4 (v1 a12 c : BitVec 32) :
    iprop(Inward d i rb1 cc0_scratch5.sem q R (2 * n.val + 1) ∗ Owing d i O W ∗ Transfers.MayWaits (tl d i) (default : HIx 1) O)
      ⊢ twp d i (k0_part4 i rowsM (Memref.isWhole_whole _) outM (Memref.isWhole_whole _) rb0 (Memref.isWhole_whole _) rb1 (Memref.isWhole_whole _) ob0 (Memref.isWhole_whole _) ob1 (Memref.isWhole_whole _) cc0_scratch4 cc0_scratch5 cc0_scratch6 cc0_scratch7 v1 n a12 c)
        fun _ => iprop(owns (tl d i) rb1 fullShare (fetched R i (2 * n.val + 1)) ∗ (rowsLoc d ↦{q} R)
          ∗ semVal (tl d i, .dma cc0_scratch5.sem) 0 ∗ Owing d i O W) := by
  have hn := trips_lt n
  simp only [k0_part4_eq_skeleton]
  unfold k0_part4_skel
  iintro H
  iapply (wp_take d i (show 2 * n.val + 1 < 104 by omega)) $$ H
  iintro H
  unfold twp
  rw [wp_pure]
  imodintro
  iexact H

/-- The second slot's write-back buffer is free again, and takes the transposed block. -/
theorem wp_part5 (v1 v139 v176 : BitVec 32) :
    iprop(owns (tl d i) rb1 fullShare (fetched R i (2 * n.val + 1)) ∗ Outward d i ob1 cc0_scratch7.sem R (2 * n.val + 1)
        ∗ Got d i R (2 * n.val + 1) ∗ Owing d i O W ∗ Transfers.MayWaits (tl d i) (default : HIx 1) O)
      ⊢ twp d i (k0_part5 i rowsM (Memref.isWhole_whole _) outM (Memref.isWhole_whole _) rb0 (Memref.isWhole_whole _) rb1 (Memref.isWhole_whole _) ob0 (Memref.isWhole_whole _) ob1 (Memref.isWhole_whole _) cc0_scratch4 cc0_scratch5 cc0_scratch6 cc0_scratch7 v1 lanes0 n v139 v176)
        fun _ => iprop(owns (tl d i) rb1 fullShare (fetched R i (2 * n.val + 1)) ∗ owns (tl d i) ob1 fullShare (tr (fetched R i (2 * n.val + 1)))
          ∗ semVal (tl d i, .dma cc0_scratch7.sem) 0 ∗ Got d i R (2 * n.val + 1 + 1) ∗ Owing d i O W) := by
  simp only [k0_part5_eq_skeleton]
  by_cases hc : k0_cond3 n = 1#1
  · rw [part5_later (h := hc)]
    iintro ⟨Hr, Ho, Hd, HO, Hmw⟩
    iapply (wp_drain d i ((cond3_iff n).1 hc)) $$ [Ho Hd HO Hmw]
    · isplitl [Ho]; · iexact Ho
      isplitl [Hd]; · iexact Hd
      isplitl [HO] <;> iassumption
    iintro ⟨Ho, Hv, Hd, HO⟩
    iapply (wp_transpose d i rb1 ob1 (fetched R i (2 * n.val + 1))) $$ [Hr Ho]
    · isplitl [Hr] <;> iassumption
    iintro ⟨Hr, Ho⟩
    unfold twp
    rw [wp_pure]
    imodintro
    isplitl [Hr]; · iexact Hr
    isplitl [Ho]; · iexact Ho
    isplitl [Hv]; · iexact Hv
    isplitl [Hd] <;> iassumption
  · rw [part5_first (h := hc)]
    iintro ⟨Hr, Ho, Hd, HO, -⟩
    ihave Ho := (drain_skip d i (fun h => hc ((cond3_iff n).2 h))) $$ [Ho Hd]
    · isplitl [Ho] <;> iassumption
    icases Ho with ⟨Ho, Hv, Hd⟩
    iapply (wp_transpose d i rb1 ob1 (fetched R i (2 * n.val + 1))) $$ [Hr Ho]
    · isplitl [Hr] <;> iassumption
    iintro ⟨Hr, Ho⟩
    unfold twp
    rw [wp_pure]
    imodintro
    isplitl [Hr]; · iexact Hr
    isplitl [Ho]; · iexact Ho
    isplitl [Hv]; · iexact Hv
    isplitl [Hd] <;> iassumption

variable (q' : PosShare TreeShare)

/-- What the tile holds before step `t`, an even one. -/
def Before (t : ℕ) : sProp 𝕄 :=
  iprop(Inward d i rb0 cc0_scratch4.sem q R t ∗ Inward d i rb1 cc0_scratch5.sem q' R (t + 1) ∗ Outward d i ob0 cc0_scratch6.sem R t
    ∗ Outward d i ob1 cc0_scratch7.sem R (t + 1) ∗ Got d i R t ∗ Rest d i f t ∗ Owing d i O W)

/-- What it holds in the second half of a trip, when the second slot's block is on its way out. -/
theorem wp_part6 (v1 c0 c1 : BitVec 32) :
    iprop(Before d i q R f O W q' (2 * n.val) ∗ Transfers.MayWaits (tl d i) (default : HIx 1) O)
      ⊢ twp d i (k0_part6 i rowsM (Memref.isWhole_whole _) outM (Memref.isWhole_whole _) rb0 (Memref.isWhole_whole _) rb1 (Memref.isWhole_whole _) ob0 (Memref.isWhole_whole _) ob1 (Memref.isWhole_whole _) cc0_scratch4 cc0_scratch5 cc0_scratch6 cc0_scratch7 v1 lanes0 c0 c1 n)
        fun _ => iprop(Inward d i rb0 cc0_scratch4.sem q R (2 * n.val + 2) ∗ owns (tl d i) rb1 fullShare (fetched R i (2 * n.val + 1))
          ∗ (rowsLoc d ↦{q'} R) ∗ semVal (tl d i, .dma cc0_scratch5.sem) 0 ∗ Outward d i ob0 cc0_scratch6.sem R (2 * n.val + 2)
          ∗ Outward d i ob1 cc0_scratch7.sem R (2 * n.val + 1 + 2) ∗ Got d i R (2 * n.val + 2) ∗ Rest d i f (2 * n.val + 2) ∗ Owing d i O W) := by
  simp only [k0_part6_eq_skeleton]
  unfold k0_part6_skel Before
  iintro ⟨⟨Hi0, Hi1, Ho0, Ho1, Hg, Hrest, HO⟩, #Hmw⟩
  iapply (wp_seq d i (wp_part1 d i q R O W n _ _ _)) $$ [Hi0 HO]
  · isplitl [Hi0]; · iexact Hi0
    isplitl [HO] <;> iassumption
  iintro %a ⟨Hb, Hr, Hv, HO⟩
  obtain ⟨a12, v31, c2⟩ := a
  iapply (wp_seq d i (wp_part2 d i R O W n _ _ _)) $$ [Hb Ho0 Hg HO]
  · isplitl [Hb]; · iexact Hb
    isplitl [Ho0]; · iexact Ho0
    isplitl [Hg]; · iexact Hg
    isplitl [HO] <;> iassumption
  iintro %b ⟨Hb, Ho, Hv', Hg, HO⟩
  obtain ⟨c4, v99⟩ := b
  iapply (wp_seq d i (wp_part3 d i q R f n _ _ _ _)) $$ [Hb Hr Hv Ho Hrest Hv']
  · isplitl [Hb]; · iexact Hb
    isplitl [Hr]; · iexact Hr
    isplitl [Hv]; · iexact Hv
    isplitl [Ho]; · iexact Ho
    isplitl [Hrest] <;> iassumption
  iintro %c ⟨Hi0, Ho0, Hrest⟩
  iapply (wp_seq d i (wp_part4 d i q' R O W n _ _ _)) $$ [Hi1 HO]
  · isplitl [Hi1]; · iexact Hi1
    isplitl [HO] <;> iassumption
  iintro %e ⟨Hb, Hr, Hv, HO⟩
  obtain ⟨v139, v176⟩ := e
  iapply (wp_seq d i (wp_part5 d i R O W n _ _ _)) $$ [Hb Ho1 Hg HO]
  · isplitl [Hb]; · iexact Hb
    isplitl [Ho1]; · iexact Ho1
    isplitl [Hg]; · iexact Hg
    isplitl [HO] <;> iassumption
  iintro %g ⟨Hb, Ho, Hv', Hg, HO⟩
  obtain ⟨c98, v207, v208⟩ := g
  iapply (wp_put d i (2 * n.val + 1) (off8_at i n)) $$ [Ho Hrest Hv']
  · isplitl [Ho]; · iexact Ho
    isplitl [Hrest] <;> iassumption
  iintro ⟨Ho1, Hrest⟩
  unfold twp
  rw [wp_pure]
  imodintro
  isplitl [Hi0]; · iexact Hi0
  isplitl [Hb]; · iexact Hb
  isplitl [Hr]; · iexact Hr
  isplitl [Hv]; · iexact Hv
  isplitl [Ho0]; · iexact Ho0
  isplitl [Ho1]; · iexact Ho1
  isplitl [Hg]; · iexact Hg
  isplitl [Hrest] <;> iassumption

/-- One trip. -/
theorem wp_body (v1 : BitVec 32) :
    iprop(Before d i q R f O W q' (2 * n.val) ∗ Transfers.MayWaits (tl d i) (default : HIx 1) O)
      ⊢ twp d i (k0_t1_body i rowsM (Memref.isWhole_whole _) outM (Memref.isWhole_whole _) rb0 (Memref.isWhole_whole _) rb1 (Memref.isWhole_whole _) ob0 (Memref.isWhole_whole _) ob1 (Memref.isWhole_whole _) cc0_scratch4 cc0_scratch5 cc0_scratch6 cc0_scratch7 v1 lanes0 n ()) fun _ => Before d i q R f O W q' (2 * (n.val + 1)) := by
  unfold k0_t1_body
  iintro H
  iapply (wp_seq d i (wp_part6 d i q R f O W n q' _ _ _)) $$ H
  iintro %a ⟨Hi0, Hb, Hr, Hv, Ho0, Ho1, Hg, Hrest, HO⟩
  obtain ⟨v139, v244, c117⟩ := a
  rw [show 2 * (n.val + 1) = 2 * n.val + 2 from rfl]
  unfold Before
  by_cases hc : k0_cond4 n = 1#1
  · dsimp only
    rw [dif_pos hc]
    iapply (wp_fill d i (2 * n.val + 3) ((cond4_iff n).1 hc) (off9_at i n hc)) $$ [Hb Hr Hv]
    · isplitl [Hb]; · iexact Hb
      isplitl [Hr] <;> iassumption
    iintro Hb
    unfold twp
    rw [wp_pure]
    imodintro
    isplitl [Hi0]; · iexact Hi0
    isplitl [Hb]; · iexact Hb
    isplitl [Ho0]; · iexact Ho0
    isplitl [Ho1]; · iexact Ho1
    isplitl [Hg]; · iexact Hg
    isplitl [Hrest] <;> iassumption
  · dsimp only
    rw [dif_neg hc]
    ihave Hb := (fill_skip d i (t := 2 * n.val + 3) (fun h => hc ((cond4_iff n).2 h))) $$ [Hb Hr Hv]
    · isplitl [Hb]; · iexact Hb
      isplitl [Hr] <;> iassumption
    unfold twp
    rw [wp_pure]
    imodintro
    isplitl [Hi0]; · iexact Hi0
    isplitl [Hb]; · iexact Hb
    isplitl [Ho0]; · iexact Ho0
    isplitl [Ho1]; · iexact Ho1
    isplitl [Hg]; · iexact Hg
    isplitl [Hrest] <;> iassumption

end Trip

end Cert.Proof.Tile

end
-- ==== Proof.Task.lean ====
/-
  The tile's whole program: the two fetches before the loop, the loop, the two waits after it.
-/
module

public import proofs.«01_k».proof.Proof.Body

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Task
variable [FloatOps F] (d : Dev nD) (i : grid0.Coords)
variable (q q' : PosShare TreeShare) (R : S425984x64.Idx → Elt F .f32) (f : S26x64x16384.Idx → Elt F .f32)
variable (O : CellTallies nD τ sig (HIx 1)) (W : Waits sig (HIx 1))

omit [FloatOps F] in
theorem before_start :
    iprop(Inward d i rb0 cc0_scratch4.sem q R 0 ∗ Inward d i rb1 cc0_scratch5.sem q' R 1 ∗ (∃ X, owns (tl d i) ob0 fullShare X)
        ∗ semVal (tl d i, .dma cc0_scratch6.sem) 0 ∗ (∃ X, owns (tl d i) ob1 fullShare X) ∗ semVal (tl d i, .dma cc0_scratch7.sem) 0
        ∗ (outLoc d ↦[mine (wk i)]{fullShare} f) ∗ Owing d i O W)
      ⊢ (Before d i q R f O W q' 0 : sProp 𝕄) := by
  unfold Before Outward Got Rest
  rw [if_neg (by decide), if_neg (by decide), todo_zero, show 0 - 2 = 0 from rfl, done_zero, pointsTo_empty]
  iintro ⟨Hi0, Hi1, Hb0, Hv0, Hb1, Hv1, Ho, HO⟩
  isplitl [Hi0]; · iexact Hi0
  isplitl [Hi1]; · iexact Hi1
  isplitl [Hb0 Hv0]; · isplitl [Hb0] <;> iassumption
  isplitl [Hb1 Hv1]; · isplitl [Hb1] <;> iassumption
  isplitr; · iempintro
  isplitl [Ho] <;> iassumption

omit [FloatOps F] in
theorem inward_over {rb : Memref sig .scVector .vmem S128x64 .f32} {sm : DmaSem sig} {t : ℕ} (h : ¬ t < 104) :
    Inward d i rb sm q R t ⊢ (iprop((∃ X, owns (tl d i) rb fullShare X) ∗ (rowsLoc d ↦{q} R) ∗ semVal (tl d i, .dma sm) 0) : sProp 𝕄) := by
  unfold Inward; rw [if_neg h]

omit [FloatOps F] in
theorem got_all : Got d i R (105 + 1) ⊢ (iprop(outLoc d ↦[mine (wk i)]{fullShare} result R) : sProp 𝕄) := by
  unfold Got; rw [show 105 + 1 - 2 = 104 from rfl, done_all]

theorem wp_loop_body (v1 : BitVec 32) (n : Fin k0_t1_loop.trips) :
    iprop(Before d i q R f O W q' (2 * n.val) ∗ Transfers.MayWaits (tl d i) (default : HIx 1) O)
      ⊢ twp d i (k0_t1_body i rowsM (Memref.isWhole_whole _) outM (Memref.isWhole_whole _) rb0 (Memref.isWhole_whole _) rb1 (Memref.isWhole_whole _) ob0 (Memref.isWhole_whole _) ob1 (Memref.isWhole_whole _) cc0_scratch4 cc0_scratch5 cc0_scratch6 cc0_scratch7 v1 lanes0 n ())
        fun _ => iprop(Before d i q R f O W q' (2 * (n.val + 1)) ∗ Transfers.MayWaits (tl d i) (default : HIx 1) O) := by
  iintro ⟨HB, #Hmw⟩
  unfold twp
  iapply (wp_wand_r frame _ _)
  isplitl [HB]
  · iapply (wp_body d i q R f O W n q' v1)
    isplitl [HB] <;> iassumption
  · iintro %_ HB
    isplitl [HB] <;> iassumption

/-- The loop and the fetches before it. -/
theorem wp_part7 :
    iprop((rowsLoc d ↦{q} R) ∗ (rowsLoc d ↦{q'} R) ∗ (outLoc d ↦[mine (wk i)]{fullShare} f)
        ∗ (∃ X, owns (tl d i) rb0 fullShare X) ∗ (∃ X, owns (tl d i) rb1 fullShare X)
        ∗ (∃ X, owns (tl d i) ob0 fullShare X) ∗ (∃ X, owns (tl d i) ob1 fullShare X)
        ∗ semVal (tl d i, .dma cc0_scratch4.sem) 0 ∗ semVal (tl d i, .dma cc0_scratch5.sem) 0
        ∗ semVal (tl d i, .dma cc0_scratch6.sem) 0 ∗ semVal (tl d i, .dma cc0_scratch7.sem) 0
        ∗ Owing d i O W ∗ Transfers.MayWaits (tl d i) (default : HIx 1) O)
      ⊢ twp d i (k0_part7 i rowsM (Memref.isWhole_whole _) outM (Memref.isWhole_whole _) rb0 (Memref.isWhole_whole _) rb1 (Memref.isWhole_whole _) ob0 (Memref.isWhole_whole _) ob1 (Memref.isWhole_whole _) cc0_scratch4 cc0_scratch5 cc0_scratch6 cc0_scratch7)
        fun _ => iprop(Inward d i rb0 cc0_scratch4.sem q R 104 ∗ Inward d i rb1 cc0_scratch5.sem q' R 105
          ∗ (∃ X, owns (tl d i) ob0 fullShare X) ∗ semVal (tl d i, .dma cc0_scratch6.sem) 0
          ∗ Outward d i ob1 cc0_scratch7.sem R 105 ∗ Got d i R 105 ∗ Owing d i O W) := by
  simp only [k0_part7_eq_skeleton]
  unfold k0_part7_skel
  iintro ⟨Hr, Hr', Ho, ⟨%X0, Hb0⟩, ⟨%X1, Hb1⟩, Hc0, Hc1, Hv0, Hv1, Hv2, Hv3, HO, #Hmw⟩
  iapply (wp_fill d i 0 (by decide) (off1_0 i)) $$ [Hb0 Hr Hv0]
  · isplitl [Hb0]; · iexact Hb0
    isplitl [Hr] <;> iassumption
  iintro Hi0
  iapply (wp_fill d i 1 (by decide) (off1_1 i)) $$ [Hb1 Hr' Hv1]
  · isplitl [Hb1]; · iexact Hb1
    isplitl [Hr'] <;> iassumption
  iintro Hi1
  rw [twp]
  iapply (Scf.wp_for_bind frame (wpE (defs₀ (F := F)) 𝒱₀ (tl d i) none) Set.univ k0_t1_loop.lb k0_t1_loop.ub k0_t1_loop.st k0_t1_ok
    (I := fun n _ => iprop(Before d i q R f O W q' (2 * n) ∗ Transfers.MayWaits (tl d i) (default : HIx 1) O))
    (hbody := fun n _ => wp_loop_body d i q q' R f O W _ n)) $$ [Hi0 Hi1 Ho Hc0 Hc1 Hv2 Hv3 HO]
  · isplitr []
    rotate_left
    · iexact Hmw
    iapply (before_start d i q q' R f O W)
    isplitl [Hi0]; · iexact Hi0
    isplitl [Hi1]; · iexact Hi1
    isplitl [Hc0]; · iexact Hc0
    isplitl [Hv2]; · iexact Hv2
    isplitl [Hc1]; · iexact Hc1
    isplitl [Hv3]; · iexact Hv3
    isplitl [Ho] <;> iassumption
  rw [show Scf.trips k0_t1_loop.lb k0_t1_loop.ub k0_t1_loop.st = 52 from by decide]
  iintro %_ ⟨HB, -⟩
  unfold Before
  icases HB with ⟨Hi0, Hi1, Ho0, Ho1, Hg, -, HO⟩
  iapply (wp_drain d i (show 2 ≤ 2 * 52 by decide)) $$ [Ho0 Hg HO]
  · isplitl [Ho0]; · iexact Ho0
    isplitl [Hg]; · iexact Hg
    isplitl [HO] <;> iassumption
  iintro ⟨Hc0, Hv2, Hg, HO⟩
  unfold twp
  rw [wp_pure]
  imodintro
  isplitl [Hi0]; · iexact Hi0
  isplitl [Hi1]; · iexact Hi1
  isplitl [Hc0]; · iexact Hc0
  isplitl [Hv2]; · iexact Hv2
  isplitl [Ho1]; · iexact Ho1
  isplitl [Hg] <;> iassumption

/-- The whole task. -/
theorem wp_task :
    iprop((rowsLoc d ↦{q} R) ∗ (rowsLoc d ↦{q'} R) ∗ (outLoc d ↦[mine (wk i)]{fullShare} f)
        ∗ (∃ X, owns (tl d i) rb0 fullShare X) ∗ (∃ X, owns (tl d i) rb1 fullShare X)
        ∗ (∃ X, owns (tl d i) ob0 fullShare X) ∗ (∃ X, owns (tl d i) ob1 fullShare X)
        ∗ semVal (tl d i, .dma cc0_scratch4.sem) 0 ∗ semVal (tl d i, .dma cc0_scratch5.sem) 0
        ∗ semVal (tl d i, .dma cc0_scratch6.sem) 0 ∗ semVal (tl d i, .dma cc0_scratch7.sem) 0
        ∗ Owing d i O W ∗ Transfers.MayWaits (tl d i) (default : HIx 1) O)
      ⊢ twp d i (cc0__k3_body i rowsM (Memref.isWhole_whole _) outM (Memref.isWhole_whole _) rb0 (Memref.isWhole_whole _) rb1 (Memref.isWhole_whole _) ob0 (Memref.isWhole_whole _) ob1 (Memref.isWhole_whole _) cc0_scratch4 cc0_scratch5 cc0_scratch6 cc0_scratch7)
        fun _ => iprop((rowsLoc d ↦{q} R) ∗ (rowsLoc d ↦{q'} R) ∗ (outLoc d ↦[mine (wk i)]{fullShare} result R)
          ∗ (∃ X, owns (tl d i) rb0 fullShare X) ∗ (∃ X, owns (tl d i) rb1 fullShare X)
          ∗ (∃ X, owns (tl d i) ob0 fullShare X) ∗ (∃ X, owns (tl d i) ob1 fullShare X)
          ∗ semVal (tl d i, .dma cc0_scratch4.sem) 0 ∗ semVal (tl d i, .dma cc0_scratch5.sem) 0
          ∗ semVal (tl d i, .dma cc0_scratch6.sem) 0 ∗ semVal (tl d i, .dma cc0_scratch7.sem) 0 ∗ Owing d i O W) := by
  simp only [cc0__k3_body_eq_skeleton]
  unfold cc0__k3_body_skel
  iintro ⟨Hr, Hr', Ho, Hb0, Hb1, Hc0, Hc1, Hv0, Hv1, Hv2, Hv3, HO, #Hmw⟩
  iapply (wp_seq d i (wp_part7 d i q q' R f O W)) $$ [Hr Hr' Ho Hb0 Hb1 Hc0 Hc1 Hv0 Hv1 Hv2 Hv3 HO]
  · isplitl [Hr]; · iexact Hr
    isplitl [Hr']; · iexact Hr'
    isplitl [Ho]; · iexact Ho
    isplitl [Hb0]; · iexact Hb0
    isplitl [Hb1]; · iexact Hb1
    isplitl [Hc0]; · iexact Hc0
    isplitl [Hc1]; · iexact Hc1
    isplitl [Hv0]; · iexact Hv0
    isplitl [Hv1]; · iexact Hv1
    isplitl [Hv2]; · iexact Hv2
    isplitl [Hv3]; · iexact Hv3
    isplitl [HO] <;> iassumption
  iintro %_ ⟨Hi0, Hi1, Hc0, Hv2, Ho1, Hg, HO⟩
  iapply (wp_drain d i (show 2 ≤ 105 by decide)) $$ [Ho1 Hg HO]
  · isplitl [Ho1]; · iexact Ho1
    isplitl [Hg]; · iexact Hg
    isplitl [HO] <;> iassumption
  iintro ⟨Hc1, Hv3, Hg, HO⟩
  unfold twp
  rw [wp_pure]
  imodintro
  ihave Hi0 := (inward_over d i q R (by decide)) $$ Hi0
  ihave Hi1 := (inward_over d i q' R (by decide)) $$ Hi1
  ihave Hg := (got_all d i R) $$ Hg
  icases Hi0 with ⟨Hb0, Hr, Hv0⟩
  icases Hi1 with ⟨Hb1, Hr', Hv1⟩
  isplitl [Hr]; · iexact Hr
  isplitl [Hr']; · iexact Hr'
  isplitl [Hg]; · iexact Hg
  isplitl [Hb0]; · iexact Hb0
  isplitl [Hb1]; · iexact Hb1
  isplitl [Hc0]; · iexact Hc0
  isplitl [Hc1]; · iexact Hc1
  isplitl [Hv0]; · iexact Hv0
  isplitl [Hv1]; · iexact Hv1
  isplitl [Hv2]; · iexact Hv2
  isplitl [Hv3] <;> iassumption

end Task

end Cert.Proof.Tile

end
-- ==== Proof.Tile.lean ====
/-
  One tile's task as the launch theorem asks for it: what a tile is handed (a read share of the gathered rows, its
  own strip of the result), what it hands back (the same, the strip at its final contents), and that its program gets
  from the one to the other within the tile's own buffers and semaphores.
-/
module

public import proofs.«01_k».proof.Proof.Task

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's own buffers and semaphores -/

/-- Four different members of a family, taken out of it. -/
theorem bigSep_four {I : Type} [DecidableEq I] {S : Finset I} {Φ : I → sProp 𝕄} {a b c e : I} (ha : a ∈ S) (hb : b ∈ S) (hc : c ∈ S)
    (he : e ∈ S) (hba : b ≠ a) (hca : c ≠ a) (hea : e ≠ a) (hcb : c ≠ b) (heb : e ≠ b) (hec : e ≠ c) :
    bigSep S Φ = iprop(Φ a ∗ Φ b ∗ Φ c ∗ Φ e ∗ bigSep ((((S.erase a).erase b).erase c).erase e) Φ) := by
  rw [SparseCore.bigSep_erase' ha, SparseCore.bigSep_erase' (Finset.mem_erase.mpr ⟨hba, hb⟩),
    SparseCore.bigSep_erase' (Finset.mem_erase.mpr ⟨hcb, Finset.mem_erase.mpr ⟨hca, hc⟩⟩),
    SparseCore.bigSep_erase' (Finset.mem_erase.mpr ⟨hec, Finset.mem_erase.mpr ⟨heb, Finset.mem_erase.mpr ⟨hea, he⟩⟩⟩)]

section Own
variable (d : Dev nD) (i : grid0.Coords)

/-- A DMA semaphore of a tile, as a cell of the mesh. -/
abbrev cellOf (sm : DmaSem sig) : GSem nD τ sig := (tl d i, .dma sm)
/-- A scratch buffer of a tile, as one of the device's buffers. -/
abbrev bufOf (b : Ref sig .scVector) : DevRef τ sig := (tl d i).2.devRef b

/-- The tile's semaphores other than the kernel's four. -/
abbrev restCells : Finset (GSem nD τ sig) :=
  ((((ownCells (tl d i)).erase (cellOf d i cc0_scratch4.sem)).erase (cellOf d i cc0_scratch5.sem)).erase (cellOf d i cc0_scratch6.sem)).erase
    (cellOf d i cc0_scratch7.sem)
/-- The tile's buffers other than the kernel's four. -/
abbrev restBufs : Finset (DevRef τ sig) :=
  ((((ownRefs (τ := τ) (tl d i).2).erase (bufOf d i cc0_scratch0)).erase (bufOf d i cc0_scratch1)).erase (bufOf d i cc0_scratch2)).erase
    (bufOf d i cc0_scratch3)

theorem cellOf_ne {x y : DmaSem sig} (h : x ≠ y) : cellOf d i x ≠ cellOf d i y := fun e =>
  h (SemLoc.dma.inj (Prod.mk.inj e).2)

theorem bufOf_ne {x y : Ref sig .scVector} (h : x ≠ y) : bufOf d i x ≠ bufOf d i y := fun e => h (Proc.devRef_injective _ e)

theorem mem_cells (sm : DmaSem sig) (h : (SemLoc.dma sm : SemLoc sig).isScoped .scVector = true) : cellOf d i sm ∈ ownCells (tl d i) :=
  (mem_ownCells (g := cellOf d i sm)).mpr ⟨rfl, h⟩

/-- The tile's semaphores at zero are the kernel's four and the rest. -/
theorem ownSems0_tile :
    (ownSems0 (tl d i) : sProp 𝕄)
      = iprop(semVal (tl d i, .dma cc0_scratch4.sem) 0 ∗ semVal (tl d i, .dma cc0_scratch5.sem) 0
          ∗ semVal (tl d i, .dma cc0_scratch6.sem) 0 ∗ semVal (tl d i, .dma cc0_scratch7.sem) 0
          ∗ bigSep (restCells d i) fun g => semVal g 0) := by
  unfold SparseCore.Cfg.ownSems0
  exact bigSep_four (mem_cells d i cc0_scratch4.sem (by decide)) (mem_cells d i cc0_scratch5.sem (by decide)) (mem_cells d i cc0_scratch6.sem (by decide))
    (mem_cells d i cc0_scratch7.sem (by decide)) (cellOf_ne d i (by decide)) (cellOf_ne d i (by decide)) (cellOf_ne d i (by decide))
    (cellOf_ne d i (by decide)) (cellOf_ne d i (by decide)) (cellOf_ne d i (by decide))

theorem mem_bufs (b : Ref sig .scVector) (h : (bufOf d i b).owner = .proc (tl d i).2) : bufOf d i b ∈ ownRefs (τ := τ) (tl d i).2 :=
  SparseCore.Cfg.mem_ownRefs_of_owner (p := (tl d i).2) (b := bufOf d i b) h

/-- The tile's buffers at some contents are the kernel's four scratch buffers and the rest. -/
theorem ownBufs_tile :
    (ownBufs (tl d i) : sProp 𝕄)
      = iprop((∃ f, (tl d i).loc cc0_scratch0 ↦{fullShare} f) ∗ (∃ f, (tl d i).loc cc0_scratch1 ↦{fullShare} f)
          ∗ (∃ f, (tl d i).loc cc0_scratch2 ↦{fullShare} f) ∗ (∃ f, (tl d i).loc cc0_scratch3 ↦{fullShare} f)
          ∗ bigSep (restBufs d i) fun b => iprop(∃ f, ((d, b) : Loc nD τ sig) ↦{fullShare} f)) := by
  unfold SparseCore.Cfg.ownBufs
  exact bigSep_four (mem_bufs d i cc0_scratch0 rfl) (mem_bufs d i cc0_scratch1 rfl) (mem_bufs d i cc0_scratch2 rfl) (mem_bufs d i cc0_scratch3 rfl)
    (bufOf_ne d i (by decide)) (bufOf_ne d i (by decide)) (bufOf_ne d i (by decide))
    (bufOf_ne d i (by decide)) (bufOf_ne d i (by decide)) (bufOf_ne d i (by decide))

/-- A scratch buffer at some contents, as the body holds it. -/
theorem scratch_in (b : Ref sig .scVector) : iprop(∃ f, (tl d i).loc b ↦{fullShare} f) ⊢ (iprop(∃ X, owns (tl d i) (Memref.whole b) fullShare X) : sProp 𝕄) := by
  iintro ⟨%f, H⟩
  iexists f
  iapply (Entails.of_eq (owns_whole (tl d i) b fullShare f).symm)
  iexact H

/-- And back. -/
theorem scratch_out (b : Ref sig .scVector) : iprop(∃ X, owns (tl d i) (Memref.whole b) fullShare X) ⊢ (iprop(∃ f, (tl d i).loc b ↦{fullShare} f) : sProp 𝕄) := by
  iintro ⟨%f, H⟩
  iexists f
  iapply (Entails.of_eq (owns_whole (tl d i) b fullShare f))
  iexact H

end Own

variable [FloatOps F]

/-! ## The task -/

section Tile
variable (d : Dev nD) (i : grid0.Coords) (q : PosShare TreeShare) (R : Buf (Elt F) (rowsLoc d)) (f : Buf (Elt F) (outLoc d))

omit [FloatOps F] in
/-- A share of the rows is its two halves, one for each of the two row buffers. -/
theorem rows_halves : (rowsLoc d ↦{q} R : sProp 𝕄) ⊣⊢ iprop((rowsLoc d ↦{q.left} R) ∗ (rowsLoc d ↦{q.right} R)) :=
  pointsTo_share (PosShare.mem_left_op_right q)

/-- The tile's program, from a share of the rows and the tile's strip of the result at any contents to the strip at its
    final contents. -/
theorem tile_body (O : CellTallies nD τ sig (HIx 1)) (W : Waits sig (HIx 1)) (hO : ∀ g, O g none = 0) :
    iprop(levAts (K (F := F)).L (K (F := F)).lev ∗ emp
        ∗ ((rowsLoc d ↦{q} R) ∗ (outLoc d ↦[mine (wk i)]{fullShare} f))
        ∗ scopedBufs (tl d i) ∗ scopedSems0 (tl d i) ∗ owes (tl d i) O W)
      ⊢ twp d i (cc0__k3_body i rowsM (Memref.isWhole_whole _) outM (Memref.isWhole_whole _) rb0 (Memref.isWhole_whole _) rb1 (Memref.isWhole_whole _) ob0 (Memref.isWhole_whole _) ob1 (Memref.isWhole_whole _) cc0_scratch4 cc0_scratch5 cc0_scratch6 cc0_scratch7)
          fun _ => iprop(((rowsLoc d ↦{q} R) ∗ (outLoc d ↦[mine (wk i)]{fullShare} (result R : Buf (Elt F) (outLoc d))))
            ∗ scopedBufs (tl d i) ∗ scopedSems0 (tl d i)
            ∗ ∃ W', ⌜∀ p ∈ W', p ∈ W ∨ p.2 = none⌝ ∗ owes (tl d i) O W') := by
  rw [(K (F := F)).scopedBufs_V facts d ((i 0).castLE hcore0) ((i 1).castLE hsub0),
    SparseCore.Cfg.scopedSems0_V (Val := Elt F) d ((i 0).castLE hcore0) ((i 1).castLE hsub0), ownSems0_tile, ownBufs_tile]
  iintro ⟨#Hlv, -, ⟨Hr, Ho⟩, ⟨Hb0, Hb1, Hc0, Hc1, Hbufs⟩, ⟨Hv0, Hv1, Hv2, Hv3, Hsems⟩, HO⟩
  ihave Hmw := (show levAts (K (F := F)).L (K (F := F)).lev ⊢ Transfers.MayWaits (tl d i) (default : HIx 1) O from
    (K (F := F)).mayWaits_none (thr := tl d i) hO) $$ Hlv
  ihave Hr := (rows_halves d q R).1 $$ Hr
  icases Hr with ⟨Hr, Hr'⟩
  ihave Hb0 := (scratch_in d i cc0_scratch0) $$ Hb0
  ihave Hb1 := (scratch_in d i cc0_scratch1) $$ Hb1
  ihave Hc0 := (scratch_in d i cc0_scratch2) $$ Hc0
  ihave Hc1 := (scratch_in d i cc0_scratch3) $$ Hc1
  iapply (wp_wand_r frame _ _)
  isplitl [Hr Hr' Ho Hb0 Hb1 Hc0 Hc1 Hv0 Hv1 Hv2 Hv3 HO Hmw]
  · iapply (wp_task d i q.left q.right R f O W)
    isplitl [Hr]; · iexact Hr
    isplitl [Hr']; · iexact Hr'
    isplitl [Ho]; · iexact Ho
    isplitl [Hb0]; · iexact Hb0
    isplitl [Hb1]; · iexact Hb1
    isplitl [Hc0]; · iexact Hc0
    isplitl [Hc1]; · iexact Hc1
    isplitl [Hv0]; · iexact Hv0
    isplitl [Hv1]; · iexact Hv1
    isplitl [Hv2]; · iexact Hv2
    isplitl [Hv3]; · iexact Hv3
    isplitl [HO]
    · unfold Owing
      iexists W
      isplitr; · ipureintro; exact fun p hp => .inl hp
      iexact HO
    iexact Hmw
  iintro %_ ⟨Hr, Hr', Ho, Hb0, Hb1, Hc0, Hc1, Hv0, Hv1, Hv2, Hv3, HO⟩
  ihave Hr := (rows_halves d q R).2 $$ [Hr Hr']
  · isplitl [Hr] <;> iassumption
  ihave Hb0 := (scratch_out d i cc0_scratch0) $$ Hb0
  ihave Hb1 := (scratch_out d i cc0_scratch1) $$ Hb1
  ihave Hc0 := (scratch_out d i cc0_scratch2) $$ Hc0
  ihave Hc1 := (scratch_out d i cc0_scratch3) $$ Hc1
  isplitl [Hr Ho]; · isplitl [Hr] <;> iassumption
  isplitl [Hb0 Hb1 Hc0 Hc1 Hbufs]
  · isplitl [Hb0]; · iexact Hb0
    isplitl [Hb1]; · iexact Hb1
    isplitl [Hc0]; · iexact Hc0
    isplitl [Hc1] <;> iassumption
  isplitl [Hv0 Hv1 Hv2 Hv3 Hsems]
  · isplitl [Hv0]; · iexact Hv0
    isplitl [Hv1]; · iexact Hv1
    isplitl [Hv2]; · iexact Hv2
    isplitl [Hv3] <;> iassumption
  unfold Owing
  iexact HO

end Tile

end Cert.Proof.Tile

end
-- ==== Proof.Launch.lean ====
/-
  What the call's handshakes carry. Each of the two SparseCores is handed, and each of its sixteen tiles in turn, a read
  share of the gathered rows and its strip of the result; each tile brings the share back with its strip filled in. The
  tile's obligation is then `tile_body` at the tile's own coordinates.
-/
module

public import proofs.«01_k».proof.Proof.Tile

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (seq after held)

variable {F : FTy → Type}

local notation "𝕄" => MT nD τ sig (HIx 1) (Elt F) ℕ UU ℕ

variable [FloatOps F]

/-! ## The host's operations before the call, and what they leave -/

/-- The operations of @main before the call: the indices turned into one list, the negative ones wrapped around, the rows
    gathered. -/
def opsBefore : List (HloOp τ sig (Elt F)) :=
  [StableHlo.unary main_arg0 main_v0 ((transpose S26x16384 [1, 0] · transposes_S16384x26_S26x16384_1_0) : (⟨S16384x26, .i32⟩ : BufTy).Contents (Elt F) → (⟨S26x16384, .i32⟩ : BufTy).Contents (Elt F)),
   StableHlo.reshape main_v0 main_v1 (rfl : (.i32 : EltTy) = .i32) shapeCasts_S26x16384_S425984,
   StableHlo.nullary main_c (constantI S_ 32 0#32),
   StableHlo.unary main_c main_v2 (broadcastInDim S425984 ![] bcast_S_S425984 : (⟨S_, .i32⟩ : BufTy).Contents (Elt F) → (⟨S425984, .i32⟩ : BufTy).Contents (Elt F)),
   StableHlo.binary main_v1 main_v2 main_v3 (cmpi .slt : (⟨S425984, .i32⟩ : BufTy).Contents (Elt F) → (⟨S425984, .i32⟩ : BufTy).Contents (Elt F) → (⟨S425984, .i1⟩ : BufTy).Contents (Elt F)),
   StableHlo.nullary main_c_0 (constantI S_ 32 1000000#32),
   StableHlo.unary main_c_0 main_v4 (broadcastInDim S425984 ![] bcast_S_S425984 : (⟨S_, .i32⟩ : BufTy).Contents (Elt F) → (⟨S425984, .i32⟩ : BufTy).Contents (Elt F)),
   StableHlo.binary main_v1 main_v4 main_v5 (addi : (⟨S425984, .i32⟩ : BufTy).Contents (Elt F) → (⟨S425984, .i32⟩ : BufTy).Contents (Elt F) → (⟨S425984, .i32⟩ : BufTy).Contents (Elt F)),
   StableHlo.ternary main_v3 main_v5 main_v1 main_v6 (select : (⟨S425984, .i1⟩ : BufTy).Contents (Elt F) → (⟨S425984, .i32⟩ : BufTy).Contents (Elt F) → (⟨S425984, .i32⟩ : BufTy).Contents (Elt F) → (⟨S425984, .i32⟩ : BufTy).Contents (Elt F)),
   StableHlo.unary main_v6 main_v7 (broadcastInDim S425984x1 ![0] bcast_S425984_S425984x1_0 : (⟨S425984, .i32⟩ : BufTy).Contents (Elt F) → (⟨S425984x1, .i32⟩ : BufTy).Contents (Elt F)),
   StableHlo.binary main_arg1 main_v7 main_v8 ((fun x i => Host.gather gather_S1000000x64_S425984x1_S425984x64_1_0_n_n_0_1_164 x i) : (⟨S1000000x64, .f32⟩ : BufTy).Contents (Elt F) → (⟨S425984x1, .i32⟩ : BufTy).Contents (Elt F) → (⟨S425984x64, .f32⟩ : BufTy).Contents (Elt F))]

/-- The operation after the call: the result's axes put in order. -/
def opLast : HloOp τ sig (Elt F) :=
  StableHlo.unary main_v9 main_v10 ((transpose S16384x26x64 [2, 0, 1] · transposes_S26x64x16384_S16384x26x64_2_0_1) : (⟨S26x64x16384, .f32⟩ : BufTy).Contents (Elt F) → (⟨S16384x26x64, .f32⟩ : BufTy).Contents (Elt F))

/-- @main is these operations, the call, and the last one. -/
theorem main_eq (d : Dev nD) :
    main (F := F) d = seq opsBefore >>= fun _ => sc.run d 0 >>= fun _ => hlo rfl opLast (fun _ => .ret ⟨⟩) := by
  rfl

variable (m : (ℓ : Loc nD τ sig) → Buf (Elt F) ℓ)

/-- The device's buffers at the launch, -/
def V0 (d : Dev nD) : Valuation τ sig (Elt F) := fun b => m (d, b)
/-- and when the call begins. -/
def V1 (d : Dev nD) : Valuation τ sig (Elt F) := after opsBefore (V0 m d)

/-- The gathered rows when the call begins. -/
def rowsAt (d : Dev nD) : Buf (Elt F) (rowsLoc d) := V1 m d (Proc.devRef .tc main_v8)
/-- The result's buffer when the call begins. -/
def outAt (d : Dev nD) : Buf (Elt F) (outLoc d) := V1 m d (Proc.devRef .tc main_v9)

/-! ## What the handshakes carry -/

/-- The share of the rows that tile `i` of SparseCore `c` reads by. -/
def shareOf (c : Fin 2) (i : Fin 16) : PosShare TreeShare := ShareLeaves.leaf 4 (ShareLeaves.leaf 1 fullShare c) i

/-- What tile `i` of SparseCore `c` holds, its strip of the result at `g`. -/
def task (d : Dev nD) (g : Buf (Elt F) (outLoc d)) (c : Fin 2) (i : Fin 16) : sProp 𝕄 :=
  iprop((rowsLoc d ↦{shareOf c i} rowsAt m d) ∗ (outLoc d ↦[mine (2 * i.val + c.val)]{fullShare} g))

/-- What SparseCore `c` holds: what its tiles do. -/
def core (d : Dev nD) (g : Buf (Elt F) (outLoc d)) (c : Fin 2) : sProp 𝕄 := bigSep Finset.univ fun i : Fin 16 => task m d g c i

/-- The result's buffer when the call is over. -/
def outDone (d : Dev nD) : Buf (Elt F) (outLoc d) := result (rowsAt m d)

instance task_storable (d : Dev nD) (g : Buf (Elt F) (outLoc d)) (c : Fin 2) (i : Fin 16) : BI.Storable (upEmb : UEmb _ 𝕄) (task m d g c i) := by
  unfold task; infer_instance
instance core_storable (d : Dev nD) (g : Buf (Elt F) (outLoc d)) (c : Fin 2) : BI.Storable (upEmb : UEmb _ 𝕄) (core m d g c) := by
  unfold core; infer_instance

/-- The call: rows and strips at their first contents out, rows and filled strips back. -/
def P : (K (F := F)).Pay (nD := nD) (Val := Elt F) (Name := ℕ) (U := UU) where
  st := fun q d c => match q with | 0 => core m d (outAt m d) c
  dn := fun q d c => match q with | 0 => core m d (outDone m d) c
  go := fun q d c i => match q with | 0 => task m d (outAt m d) c i
  td := fun q d c i => match q with | 0 => task m d (outDone m d) c i
  x := fun _ _ => iprop(emp)

instance P_storable : (P (F := F) m).IsStorable where
  st q d c := match q with | 0 => core_storable m d (outAt m d) c
  dn q d c := match q with | 0 => core_storable m d (outDone m d) c
  go q d c i := match q with | 0 => task_storable m d (outAt m d) c i
  td q d c i := match q with | 0 => task_storable m d (outDone m d) c i

/-! ## The tile's obligation -/

/-- A tile's coordinates in the grid. -/
def coordsOf (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0__k3_body (coordsOf c s)
          rowsM (Memref.isWhole_whole _) outM (Memref.isWhole_whole _) rb0 (Memref.isWhole_whole _) rb1 (Memref.isWhole_whole _) ob0 (Memref.isWhole_whole _) ob1 (Memref.isWhole_whole _)
          cc0_scratch4 cc0_scratch5 cc0_scratch6 cc0_scratch7) ⟨⟩ c s := rfl

omit [FloatOps F] in
/-- A body's waits are among those that a task may record. -/
theorem post_widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
/-- Every tile does its task. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (coordsOf ⟨_, hci.1⟩ ⟨_, hci.2⟩) (shareOf c i) (rowsAt m d) (outAt m d) O W hO).trans (wp_mono frame _ _ fun _ => post_widen)

/-- A SparseCore holds just what its tiles do. -/
theorem vecSplit : (K (F := F)).VecSplit' (P m) 0 := by
  intro d c
  show core m d (outAt m d) c ⊢ |={Set.univ}=> iprop((bigSep Finset.univ fun i : Fin 16 => task m d (outAt m d) c i)
      ∗ ((bigSep Finset.univ fun i : Fin 16 => task m d (outDone m d) c i) -∗ core m d (outDone m d) c))
  unfold core
  iintro H; imodintro
  isplitl [H]; · iexact H
  iintro H; iexact H

/-! ## The ghost state at the launch -/

/-- The handshakes' ghost state, and no counters. -/
def u₀ : UU := (initOf (K (F := F)).hsCells (K (F := F)).hsToks, 1)

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

end Cert.Proof.Tile

end
-- ==== Proof.Main.lean ====
/-
  The TensorCore's program: the host's operations, the call — the rows shared out and the result cut into the tiles'
  strips, and both put together again —, and the last transpose; then the whole program's run from any launch memory.
-/
module

public import proofs.«01_k».proof.Proof.Launch

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (seq after held held_sub_split held_congr wp_hlo_within)

variable {F : FTy → Type}

local notation "𝕄" => MT nD τ sig (HIx 1) (Elt F) ℕ UU ℕ

/-! ## The strips cover the result -/

/-- The strips of the tiles of SparseCore `c`. -/
def half (c : Fin 2) : Finset S26x64x16384.Idx := Finset.univ.filter fun x => (x 2).val / 512 % 2 = c.val

theorem strip_lt (x : S26x64x16384.Idx) : (x 2).val / 512 < 32 := Nat.div_lt_of_lt_mul (show (x 2).val < 512 * 32 from (x 2).isLt)

theorem halves : (Finset.univ : Finset (Fin 2)).biUnion half = Finset.univ := by
  ext x
  simp only [Finset.mem_biUnion, Finset.mem_univ, true_and, iff_true]
  exact ⟨⟨(x 2).val / 512 % 2, Nat.mod_lt _ (by decide)⟩, Finset.mem_filter.mpr ⟨Finset.mem_univ _, rfl⟩⟩

theorem halves_apart (c : Fin 2) (_ : c ∈ (Finset.univ : Finset (Fin 2))) (c' : Fin 2) (_ : c' ∈ (Finset.univ : Finset (Fin 2))) (h : c ≠ c') :
    Disjoint (half c) (half c') :=
  Finset.disjoint_filter.mpr fun _ _ e e' => h (Fin.ext (e.symm.trans e'))

theorem strips (c : Fin 2) : (Finset.univ : Finset (Fin 16)).biUnion (fun i => mine (2 * i.val + c.val)) = half c := by
  ext x
  have hx := strip_lt x
  have hc := c.isLt
  simp only [Finset.mem_biUnion, Finset.mem_univ, true_and, mine, half, Finset.mem_filter]
  constructor
  · rintro ⟨i, hi⟩; omega
  · intro h; exact ⟨⟨(x 2).val / 512 / 2, by omega⟩, by show _ = 2 * ((x 2).val / 512 / 2) + c.val; omega⟩

theorem strips_apart (c : Fin 2) (i : Fin 16) (_ : i ∈ (Finset.univ : Finset (Fin 16))) (j : Fin 16) (_ : j ∈ (Finset.univ : Finset (Fin 16))) (h : i ≠ j) :
    Disjoint (mine (2 * i.val + c.val)) (mine (2 * j.val + c.val)) :=
  Finset.disjoint_filter.mpr fun _ _ e e' => h (Fin.ext (by omega))

/-- The result's buffer, cut into the tiles' strips. -/
theorem out_cut (d : Dev nD) (g : Buf (Elt F) (outLoc d)) :
    (outLoc d ↦{fullShare} g : sProp 𝕄)
      = bigSep Finset.univ fun c : Fin 2 => bigSep Finset.univ fun i : Fin 16 => outLoc d ↦[mine (2 * i.val + c.val)]{fullShare} g := by
  have h := pointsTo_biUnion (Ix := HIx 1) (Name := ℕ) (U := UU) (Lvl := ℕ) (Val := Elt F) (ℓ := outLoc d) (q := fullShare) (f := g) Finset.univ half halves_apart
  rw [halves] at h
  refine h.trans (bigSep_congr fun c _ => ?_)
  rw [← strips c]
  exact pointsTo_biUnion (Ix := HIx 1) (Name := ℕ) (U := UU) (Lvl := ℕ) (Val := Elt F) (ℓ := outLoc d) (q := fullShare) (f := g) Finset.univ _ (strips_apart c)

/-- The rows, shared out among the tiles. -/
theorem rows_share (d : Dev nD) (R : Buf (Elt F) (rowsLoc d)) :
    (rowsLoc d ↦{fullShare} R : sProp 𝕄)
      = bigSep Finset.univ fun c : Fin 2 => bigSep Finset.univ fun i : Fin 16 => rowsLoc d ↦{shareOf c i} R :=
  (ShareLeaves.pointsTo_leaves Finset.univ R 1 fullShare).trans
    (bigSep_congr fun c _ => ShareLeaves.pointsTo_leaves Finset.univ R 4 (ShareLeaves.leaf 1 fullShare c))

variable [FloatOps F]
variable (m : (ℓ : Loc nD τ sig) → Buf (Elt F) ℓ) (ρ : Dev nD → PrngReg)

/-- The rows and the result's buffer are what the two SparseCores hold. -/
theorem cores (d : Dev nD) (g : Buf (Elt F) (outLoc d)) :
    iprop((rowsLoc d ↦{fullShare} rowsAt m d) ∗ (outLoc d ↦{fullShare} g)) = (bigSep Finset.univ fun c : Fin 2 => core m d g c : sProp 𝕄) := by
  unfold core task
  rw [rows_share, out_cut, ← bigSep_sep']
  refine bigSep_congr fun c _ => ?_
  rw [← bigSep_sep']

/-! ## The buffers the TensorCore holds -/

abbrev rows' : DevRef τ sig := Proc.devRef .tc (main_v8 : Ref sig .tc)
abbrev out' : DevRef τ sig := Proc.devRef .tc (main_v9 : Ref sig .tc)
/-- The two buffers that the call works on. -/
abbrev callRefs : Finset (DevRef τ sig) := {rows', out'}

/-- The buffers when the call is over, -/
def V2 (d : Dev nD) : Valuation τ sig (Elt F) := Function.update (V1 m d) out' (outDone m d)
/-- and at the end. -/
def V3 (d : Dev nD) : Valuation τ sig (Elt F) := opLast.result (V2 m d)

theorem callRefs_sub : callRefs ⊆ Pipeline.ucRefs τ sig := by
  intro b hb
  rcases Finset.mem_insert.mp hb with rfl | hb
  · exact Finset.mem_filter.mpr ⟨StableHlo.devRef_mem_tcRefs _, by decide⟩
  · rw [Finset.mem_singleton.mp hb]
    exact Finset.mem_filter.mpr ⟨StableHlo.devRef_mem_tcRefs _, by decide⟩

omit [FloatOps F] in
theorem held_call (d : Dev nD) (W : Valuation τ sig (Elt F)) :
    (held (T d) callRefs W : sProp 𝕄) = iprop((rowsLoc d ↦{fullShare} W rows') ∗ (outLoc d ↦{fullShare} W out')) := by
  unfold held callRefs
  rw [SparseCore.bigSep_insert' (by decide), bigSep_singleton]

/-- Before the call: the two cores' holdings and the other buffers, -/
theorem held_before (d : Dev nD) :
    (held (d.tc : Thread nD τ) (Pipeline.ucRefs τ sig) (after opsBefore (V0 m d)) : sProp 𝕄)
      = iprop((bigSep Finset.univ fun c : Fin 2 => core m d (outAt m d) c) ∗ held (T d) (Pipeline.ucRefs τ sig \ callRefs) (V1 m d)) := by
  show (held (T d) (Pipeline.ucRefs τ sig) (V1 m d) : sProp 𝕄) = _
  rw [held_sub_split (T d) callRefs_sub, held_call, ← cores]
  rfl

/-- and after it. -/
theorem held_behind (d : Dev nD) :
    (held (T d) (Pipeline.ucRefs τ sig) (V2 m d) : sProp 𝕄)
      = iprop((bigSep Finset.univ fun c : Fin 2 => core m d (outDone m d) c) ∗ held (T d) (Pipeline.ucRefs τ sig \ callRefs) (V1 m d)) := by
  rw [held_sub_split (T d) callRefs_sub, held_call, ← cores,
    show V2 m d rows' = rowsAt m d from Function.update_of_ne (show rows' ≠ out' by decide) _ _,
    show V2 m d out' = outDone m d from Function.update_self _ _ _,
    held_congr (T d) (V := V2 m d) (V' := V1 m d) fun b hb =>
      Function.update_of_ne (fun e => (Finset.mem_sdiff.mp hb).2 (e ▸ Finset.mem_insert_of_mem (Finset.mem_singleton_self _))) _ _]

theorem before_sub : ∀ op ∈ opsBefore (F := F), op.bufs ⊆ Pipeline.ucRefs τ sig := by
  intro op h
  refine Pipeline.sub_ucRefs op ?_
  revert op
  rw [← List.forall_iff_forall_mem]
  simp only [opsBefore, List.Forall, StableHlo.nullary_bufs_sub, StableHlo.unary_bufs_sub, StableHlo.binary_bufs_sub, StableHlo.ternary_bufs_sub,
    StableHlo.reshape_bufs_sub, and_self]

theorem before_fresh : ∀ op ∈ opsBefore (F := F), op.fresh = ∅ := by
  intro op h
  unfold opsBefore at h
  repeat (cases h with | head => rfl | tail _ h => ?_)
  exact nomatch h

theorem last_sub : (opLast (F := F)).bufs ⊆ Pipeline.ucRefs τ sig := Pipeline.sub_ucRefs _ (StableHlo.unary_bufs_sub _ _ _ _ _)

/-! ## @main -/

/-- What @main leaves: every buffer at its last contents. -/
abbrev FIN (d : Dev nD) : sProp 𝕄 := held (T d) (Pipeline.ucRefs τ sig) (V3 m d)

/-- @main on a device's TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (Pipeline.ucRefs τ sig) (V0 m d) from
    Pipeline.unscopedBufs_held d (V0 m d), main_eq]
  iintro ⟨#Hctx, Hst, ⟨Hb, Hheld, Hts, -⟩, -⟩
  iapply (StableHlo.wp_seq 𝒱 none Set.univ d (Pipeline.ucRefs τ sig) _ opsBefore before_sub before_fresh (V0 m d)) $$ [Hb Hheld]
  · isplitl [Hb] <;> iassumption
  iintro ⟨Hb, Hheld⟩
  ihave Hheld := (Entails.of_eq (held_before m d)) $$ Hheld
  icases Hheld with ⟨Hcores, Hrest⟩
  rw [wp_bind]
  iapply ((K (F := F)).wp_run (D (F := F)) 𝒱 (EH := EH) (P := P m) κ d 0) $$ [Hst Hcores Hb Hts Hrest]
  isplitr; · iexact Hctx
  isplitl [Hst]; · iexact Hst
  isplitl [Hcores]; · iexact Hcores
  iintro ⟨Hst, Hcores⟩
  iapply (wp_hlo_within 𝒱 (SparseCore.T d) none Set.univ (op := opLast) (S := Pipeline.ucRefs τ sig) last_sub (V := V2 m d)) $$ [Hb Hcores Hrest]
  · isplitl [Hb]; · iexact Hb
    rw [held_behind]
    isplitl [Hcores]; · iexact Hcores
    iexact Hrest
  iintro ⟨Hb, Hheld⟩
  rw [wp_ret]; imodintro
  isplitl [Hst]; · iexact Hst
  isplitl [Hheld]; · iexact Hheld
  isplitl [Hb]; · iexact Hb
  iexact Hts

/-- Every buffer of the device holds its last contents. -/
def fq (d : Dev nD) (s' : Phys nD τ sig (Elt F)) : Prop := ∀ b ∈ Pipeline.ucRefs τ sig, s'.mem.mem (d, b) = V3 m d b

theorem hfin (d : Dev nD) (s' : Phys nD τ sig (Elt F)) : iprop(FIN m d ∗ SI s') ⊢ (⌜fq m d s'⌝ : sProp 𝕄) := by
  unfold fq FIN held
  iintro ⟨H, HSI⟩
  iapply (SI_pointsTo_bufs_agree (st := s') (c := d) (qs := fun _ => fullShare) (F := V3 m d) (Pipeline.ucRefs τ sig))
  isplitl [HSI] <;> iassumption

/-! ## The run -/

/-- How the program ends. -/
def QC : PUnit × MemSt nD τ sig (Elt F) → Prop := fun r =>
  (∀ d : Dev nD, ∀ b ∈ Pipeline.ucRefs τ sig, r.2.mem (d, b) = V3 m d b) ∧ r.2.sem = fun _ => 0

/-- From any launch memory the program runs to its end, each unscoped buffer at its last contents and every counter at
    zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tile

end
-- ==== Proof.Lookup.lean ====
/-
  The lookup that the kernel and the reference both compute — row `idx[b, f]` of the table at `(b, f)`, the index read
  signed and clamped into the table —, the host's gather of rows read at an index, and what the precondition says of the
  indices.
-/
module

public import proofs.«01_k».proof.Pre_in_range
public import proofs.«01_k».proof.Proof.Gen.Pre_in_range
public import Idealize.ShloMosaic.Lib.ReduceAll
public import Idealize.ShloMosaic.Lib.WordCmp
public import Idealize.ShloMosaic.Lib.ValueIdx
public import Idealize.ShloMosaic.Lib.Pipeline.Value

@[expose] public section

noncomputable section

namespace Cert.Proof.Lookup

open Idealize.ShloMosaic Idealize.ShloMosaic.ValueIdx

/-- The table's row that an index word names. -/
def rowOf (w : BitVec 32) : Fin 1000000 := ⟨min w.toInt.toNat 999999, by omega⟩

/-- The rows of `x` that `idx` names. -/
def lookup {α : Type} (x : (⟨2, ![1000000, 64]⟩ : Shape).Idx → α) (idx : IVec ⟨2, ![16384, 26]⟩ 32)
    (y : (⟨3, ![16384, 26, 64]⟩ : Shape).Idx) : α :=
  x (ix2 (rowOf (idx (ix2 (y 0) (y 1)))) (y 2))

/-- A gather of whole rows, read at `y`: the row that the start index at `p` names, at column `e`. -/
theorem gather_rows {α : Type} {si t : Shape} (d : GatherDims ⟨2, ![1000000, 64]⟩ si t)
    (hc : d.collapsedSliceDims = [0]) (hb : d.operandBatchingDims = []) (hm : d.startIndexMap = [0])
    (x : (⟨2, ![1000000, 64]⟩ : Shape).Idx → α) (idx : IVec si 32) (y : t.Idx) (p : si.Idx) (hp : ∀ k, d.siIdx y k = p)
    (e : Fin 64) (he : d.offCoord y 1 = e.val) :
    Host.gather d x idx y = x (ix2 (rowOf (idx p)) e) := by
  unfold Host.gather
  refine congrArg x (funext fun a => Fin.ext ?_)
  show d.start y idx a + d.batchCoord y a + d.offCoord y a = _
  rw [GatherDims.batchCoord_eq_zero _ _ _ (by rw [hb]; exact List.not_mem_nil), Nat.add_zero]
  match a with
  | ⟨0, _⟩ =>
    have hk : (0 : Fin 2) ∉ d.sKept := by rw [GatherDims.mem_sKept, hc]; simp
    have hin : (0 : Fin 2) ∈ d.startIndexMap := by rw [hm]; exact List.mem_singleton.mpr rfl
    have hs : d.sliceSizes 0 = 1 := d.slice_collapsed 0 (by rw [hc]; exact List.mem_singleton.mpr rfl)
    show d.start y idx 0 + d.offCoord y 0 = (rowOf (idx p)).val
    rw [GatherDims.offCoord_eq_zero _ _ _ hk, Nat.add_zero]
    unfold GatherDims.start
    rw [dif_pos hin, hp, hs]
    rfl
  | ⟨1, _⟩ =>
    have hn : (1 : Fin 2) ∉ d.startIndexMap := by rw [hm]; simp
    show d.start y idx 1 + d.offCoord y 1 = e.val
    rw [he]
    unfold GatherDims.start
    rw [dif_neg hn, Nat.zero_add]

/-- The indices lie in the table. -/
def InRange (idx : IVec ⟨2, ![16384, 26]⟩ 32) : Prop := ∀ p, 0 ≤ (idx p).toInt ∧ (idx p).toInt < 1000000

/-- The precondition says so. -/
theorem inRange_of_pre {F : FTy → Type} [FloatOps F] {idx : IVec ⟨2, ![16384, 26]⟩ 32} {x : FVec F ⟨2, ![1000000, 64]⟩ .f32}
    (h : Cert.Pre_in_range.fn (F := F) idx x = fun _ => 1#1) : InRange idx := by
  intro p
  haveI : Subsingleton Cert.Pre_in_range.S_.Idx := ⟨fun a b => funext fun k => k.elim0⟩
  have h0 := congrFun h (fun k => k.elim0)
  unfold Cert.Pre_in_range.fn at h0
  obtain ⟨h1, h2⟩ := IntOp.andi_eq_one.1 (Host.reduce_andi_all _ _ _ _ _ h0 p)
  exact ⟨IntOp.cmpi_sge.1 h1, IntOp.cmpi_slt.1 h2⟩

/-- A word that is not negative stays as it is where a negative one would have the table's height added. -/
theorem wrap_eq (w c : BitVec 32) (h : 0 ≤ w.toInt) : Scalar.select (IntOp.cmpi .slt w 0#32) c w = w := by
  have hz : IntOp.cmpi .slt w 0#32 = 0#1 := eq_zero_of_ne_one fun h1 => by
    have := IntOp.cmpi_slt.1 h1
    simp at this
    omega
  rw [hz]; rfl

end Cert.Proof.Lookup

end
-- ==== Proof.Value.lean ====
/-
  What the kernel's buffers hold at the end: the arguments as at the launch, and the result the lookup.
-/
module

public import proofs.«01_k».proof.Proof.Main
public import proofs.«01_k».proof.Proof.Lookup

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (seq after)
open Idealize.ShloMosaic.ValueIdx (ix1 ix2 ix3)
open Cert.Proof.Lookup

variable {F : FTy → Type}
local notation "𝕄" => MT nD τ sig (HIx 1) (Elt F) ℕ UU ℕ
variable (m : (ℓ : Loc nD τ sig) → Buf (Elt F) ℓ) (d : Dev nD)

/-- A buffer that is neither the call's result nor the last operation's ends as the call found it. -/
theorem V3_of_ne {b : DevRef τ sig} (h9 : b ≠ Proc.devRef .tc main_v9) (h10 : b ≠ Proc.devRef .tc main_v10) : V3 m d b = V1 m d b := by
  unfold V3 V2 opLast
  rw [HloOp.result_of_not_mem _ _ (by rw [StableHlo.unary_writes, Finset.mem_singleton]; exact h10)]
  exact Function.update_of_ne h9 _ _

/-- The indices end as at the launch, -/
theorem V3_arg0 : V3 m d (Proc.devRef .tc main_arg0) = m ((d.tc : Thread nD τ).loc main_arg0) := by
  rw [V3_of_ne m d (by decide) (by decide)]
  unfold V1 opsBefore
  after_results
  rfl
/-- and so does the table. -/
theorem V3_arg1 : V3 m d (Proc.devRef .tc main_arg1) = m ((d.tc : Thread nD τ).loc main_arg1) := by
  rw [V3_of_ne m d (by decide) (by decide)]
  unfold V1 opsBefore
  after_results
  rfl

/-- The indices in the order the rows are gathered in. -/
def flat : IVec S425984 32 :=
  shapeCast S425984 (transpose S26x16384 [1, 0] (m ((d.tc : Thread nD τ).loc main_arg0)) transposes_S16384x26_S26x16384_1_0) shapeCasts_S26x16384_S425984

/-- The gathered rows. -/
theorem rowsAt_eq : rowsAt m d = Host.gather gather_S1000000x64_S425984x1_S425984x64_1_0_n_n_0_1_164 (m ((d.tc : Thread nD τ).loc main_arg1))
    (broadcastInDim S425984x1 ![0] bcast_S425984_S425984x1_0
      (select (cmpi .slt (flat m d) (broadcastInDim S425984 ![] bcast_S_S425984 (constantI S_ 32 0#32)))
        (addi (flat m d) (broadcastInDim S425984 ![] bcast_S_S425984 (constantI S_ 32 1000000#32))) (flat m d))) := by
  unfold rowsAt V1 opsBefore
  after_results
  rfl

/-- The result: the last operation's transpose of what the call leaves. -/
theorem V3_out : V3 m d (Proc.devRef .tc main_v10)
    = transpose S16384x26x64 [2, 0, 1] (result (rowsAt m d)) transposes_S26x64x16384_S16384x26x64_2_0_1 := by
  unfold V3 V2 opLast
  rw [StableHlo.unary_result, Function.update_self]
  rfl

/-- Index number `16384 f + b` in that order is the one at `(b, f)`. -/
theorem flat_apply (b : Fin 16384) (f : Fin 26) (h : 16384 * f.val + b.val < 425984) :
    flat m d (ix1 ⟨16384 * f.val + b.val, h⟩) = m ((d.tc : Thread nD τ).loc main_arg0) (ix2 b f) := by
  unfold flat
  rw [shapeCast_apply _ _ _ (ix2 f b) (by
      rw [Shape.rowMajor_val_one, Shape.rowMajor_val_two]
      show f.val * 16384 + b.val = 16384 * f.val + b.val
      omega),
    transpose_apply _ _ _ _ (ix2 b f) (fun a => match a with | ⟨0, _⟩ => rfl | ⟨1, _⟩ => rfl)]

/-- With the indices in the table, the result is the lookup. -/
theorem out_eq (h : InRange (m ((d.tc : Thread nD τ).loc main_arg0))) :
    V3 m d (Proc.devRef .tc main_v10) = lookup (m ((d.tc : Thread nD τ).loc main_arg1)) (m ((d.tc : Thread nD τ).loc main_arg0)) := by
  rw [V3_out]
  funext y
  refine (transpose_apply (s := S26x64x16384) (t := S16384x26x64) [2, 0, 1] (result (rowsAt m d)) transposes_S26x64x16384_S16384x26x64_2_0_1 y
    (ix3 (y 1) (y 2) (y 0)) (fun a => match a with | ⟨0, _⟩ => rfl | ⟨1, _⟩ => rfl | ⟨2, _⟩ => rfl)).trans ?_
  unfold result
  rw [rowsAt_eq, gather_rows _ rfl rfl rfl _ _ _
    (ix2 ⟨16384 * (y 1).val + (y 0).val, outRow_lt (ix3 (y 1) (y 2) (y 0))⟩ 0) (fun k => ?hp) (y 2) rfl]
  case hp =>
    funext a
    refine Fin.ext ?_
    match a with
    | ⟨0, _⟩ => rfl
    | ⟨1, _⟩ => exact Nat.lt_one_iff.mp k.isLt
  rw [broadcastInDim_apply _ _ _ _ (ix1 ⟨16384 * (y 1).val + (y 0).val, outRow_lt (ix3 (y 1) (y 2) (y 0))⟩) (fun a => by
    obtain rfl : a = 0 := Subsingleton.elim _ _
    rfl)]
  have hflat := flat_apply m d (y 0) (y 1) (outRow_lt (ix3 (y 1) (y 2) (y 0)))
  have hw := wrap_eq _ (IntOp.addi (flat m d (ix1 ⟨16384 * (y 1).val + (y 0).val, outRow_lt (ix3 (y 1) (y 2) (y 0))⟩)) 1000000#32)
    (hflat ▸ (h (ix2 (y 0) (y 1))).1 : 0 ≤ (flat m d (ix1 ⟨16384 * (y 1).val + (y 0).val, outRow_lt (ix3 (y 1) (y 2) (y 0))⟩)).toInt)
  refine (congrArg (fun w => m ((d.tc : Thread nD τ).loc main_arg1) (ix2 (rowOf w) (y 2))) (hw.trans hflat)).trans ?_
  rfl

end Cert.Proof.Tile

end
-- ==== Proof.Reference.lean ====
/-
  The reference's result with the indices in the table: the lookup. Its recomputed index `1000 g + (x - 1000 g)` is `x`
  whatever `g` is, and the mask it fills by is true everywhere.
-/
module

public import proofs.«01_k».proof.Proof.Gen.ReferenceIdeal
public import proofs.«01_k».proof.Proof.Gen.ReferenceIdeal.Run
public import proofs.«01_k».proof.Proof.Lookup

@[expose] public section

noncomputable section

namespace Cert.Proof.Reference

open Cert.ReferenceIdeal Cert.ReferenceIdeal.Gen
open Idealize.ShloMosaic Idealize.SL.Sem
open Idealize.ShloMosaic.ValueIdx (ix1 ix2 ix3)
open Cert.Proof.Lookup

variable {F : FTy → Type} [FloatOps F]

/-- `a + (x - a)` is `x`, element by element. -/
theorem add_sub_words {s : Shape} (a x : IVec s 32) : addi a (subi x a) = x := by
  funext i
  show a i + (x i - a i) = x i
  rw [BitVec.add_comm, BitVec.sub_add_cancel]

/-- The start indices, as the program spells them. -/
def starts (x : IVec S16384x26 32) : IVec S16384x26x1 32 :=
  broadcastInDim S16384x26x1 ![0, 1] bcast_S16384x26_S16384x26x1_0_1
    (select (cmpi .slt x (broadcastInDim S16384x26 ![] bcast_S_S16384x26 (constantI S_ 32 0#32)))
      (addi x (broadcastInDim S16384x26 ![] bcast_S_S16384x26 (constantI S_ 32 1000000#32))) x)

/-- With the indices in the table these are the indices. -/
theorem starts_apply {x : IVec S16384x26 32} (h : InRange x) (p : S16384x26x1.Idx) : starts x p = x (ix2 (p 0) (p 1)) := by
  refine (broadcastInDim_apply (s := S16384x26) (t := S16384x26x1) ![0, 1] bcast_S16384x26_S16384x26x1_0_1 _ p (ix2 (p 0) (p 1))
    (fun a => match a with | ⟨0, _⟩ => rfl | ⟨1, _⟩ => rfl)).trans ?_
  exact wrap_eq _ _ (h _).1

/-- Which of the start indices lie in the table, as the program spells it. -/
def inside (x : IVec S16384x26 32) : IVec S16384x26x1 1 :=
  andi (cmpi .sge (starts x) (broadcastInDim S16384x26x1 ![] bcast_S_S16384x26x1 (constantI S_ 32 0#32)))
    (cmpi .sle (starts x) (broadcastInDim S16384x26x1 ![0, 1, 2] bcast_S1x1x1_S16384x26x1_0_1_2
      (broadcastInDim S1x1x1 ![2] bcast_S1_S1x1x1_2 (constantI S1 32 999999#32))))

/-- With the indices in the table all do. -/
theorem inside_apply {x : IVec S16384x26 32} (h : InRange x) (p : S16384x26x1.Idx) : inside x p = 1#1 := by
  have hs := starts_apply h p
  obtain ⟨h0, h1⟩ := h (ix2 (p 0) (p 1))
  have e : (999999#32).toInt = 999999 := by decide
  refine IntOp.andi_eq_one.2 ⟨IntOp.cmpi_sge.2 ?_, IntOp.cmpi_sle.2 ?_⟩
  · show (0#32).toInt ≤ (starts x p).toInt
    rw [hs]
    exact h0
  · show (starts x p).toInt ≤ (999999#32).toInt
    rw [hs]
    omega

/-- The mask, -/
def mask (x : IVec S16384x26 32) : IVec S16384x26x64 1 :=
  broadcastInDim S16384x26x64 ![0, 1] bcast_S16384x26_S16384x26x64_0_1
    (Host.reduce IntOp.andi (inside x) (constantI S_ 1 1#1) reducesTo_S16384x26x1_S16384x26_d2 h_S_)

/-- then true everywhere. -/
theorem mask_apply {x : IVec S16384x26 32} (h : InRange x) (y : S16384x26x64.Idx) : mask x y = 1#1 :=
  (broadcastInDim_apply (s := S16384x26) (t := S16384x26x64) ![0, 1] bcast_S16384x26_S16384x26x64_0_1 _ y
    (ix2 (y 0) (y 1)) (fun a => match a with | ⟨0, _⟩ => rfl | ⟨1, _⟩ => rfl)).trans
    (Host.reduce_andi_one (inside x) (constantI S_ 1 1#1) reducesTo_S16384x26x1_S16384x26_d2 h_S_ _ rfl (inside_apply h))

/-- The rows taken, with the mask's fill, are the lookup. -/
theorem take_eq (z : FVec F S16384x26x64 .f32) (tab : FVec F S1000000x64 .f32) {x : IVec S16384x26 32} (h : InRange x) :
    select (mask x) (Host.gather gather_S1000000x64_S16384x26x1_S16384x26x64_2_0_n_n_0_2_164 tab (starts x)) z = lookup tab x := by
  funext y
  rw [ValueIdx.select_apply, mask_apply h, ValueIdx.select_one]
  refine (gather_rows _ rfl rfl rfl tab (starts x) y (ix3 (y 0) (y 1) 0) (fun k => ?_) (y 2) rfl).trans ?_
  · funext a
    refine Fin.ext ?_
    match a with
    | ⟨0, _⟩ => rfl
    | ⟨1, _⟩ => rfl
    | ⟨2, _⟩ => exact Nat.lt_one_iff.mp k.isLt
  · rw [starts_apply h]
    rfl

/-- The reference's result is the lookup. -/
theorem out_eq (m : (ℓ : Loc nD τ sig) → Buf (Elt F) ℓ) (c : Dev nD) (h : InRange (m ((c.tc : Thread nD τ).loc main_arg0))) :
    Value.res_main_v7 m c = lookup (m ((c.tc : Thread nD τ).loc main_arg1)) (m ((c.tc : Thread nD τ).loc main_arg0)) := by
  unfold Value.res_main_v7
  simp only [add_sub_words]
  exact take_eq _ _ h

end Cert.Proof.Reference

end
-- ==== Proof.lean ====
/-
  The proof of `Cert.Claim`: the programs run to their end with their arguments unchanged and every counter at zero, and
  with the indices in the table the kernel's result is the reference's. The kernel's run is `Tile.run_main`, at any float
  values; both results are `Lookup.lookup` of the arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem

/-- How the kernel ends: its result and its arguments. -/
theorem kernel_ends {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : Tile.QC m r)
    (c : Dev Cert.KernelIdeal.nD) :
    r.2.mem ((c.tc : Thread Cert.KernelIdeal.nD Cert.KernelIdeal.τ).loc Cert.KernelIdeal.main_v10)
        = Tile.V3 m c (Proc.devRef .tc Cert.KernelIdeal.main_v10)
      ∧ r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1)
        = m ((c.tc : Thread Cert.KernelIdeal.nD Cert.KernelIdeal.τ).loc Cert.KernelIdeal.main_arg1) :=
  ⟨h.1 c (Proc.devRef .tc Cert.KernelIdeal.main_v10) (Finset.mem_filter.mpr ⟨StableHlo.devRef_mem_tcRefs _, by decide⟩),
    (h.1 c (Proc.devRef .tc Cert.KernelIdeal.main_arg0) (Finset.mem_filter.mpr ⟨StableHlo.devRef_mem_tcRefs _, by decide⟩)).trans (Tile.V3_arg0 m c),
    (h.1 c (Proc.devRef .tc Cert.KernelIdeal.main_arg1) (Finset.mem_filter.mpr ⟨StableHlo.devRef_mem_tcRefs _, by decide⟩)).trans (Tile.V3_arg1 m c)⟩

/-- The kernel's frame, floats as bit patterns: the two printed programs are one text. -/
theorem frame_kernel : Cert.quiescent_Kernel := fun m g _ =>
  (θ_run Cert.KernelIdeal.defs _ _).mono (fun _ h => ⟨fun c => (kernel_ends h c).2, h.2⟩) (Tile.run_main (F := Bits) m g)

/-- The frame of the kernel at the extended reals. -/
theorem frame_kernelIdeal : Cert.quiescent_KernelIdeal := fun m g _ =>
  (θ_run Cert.KernelIdeal.defs _ _).mono (fun _ h => ⟨fun c => (kernel_ends h c).2, h.2⟩) (Tile.run_main (F := Ideal) m g)

/-- The reference's frame; it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The two results are equal: each is the lookup. -/
theorem algebraic : Cert.algebraic_KernelIdeal_ReferenceIdeal_pre_in_range := by
  intro m g m' g' hpre hagree
  have hin := fun c => Lookup.inRange_of_pre (hpre c)
  refine ⟨fun c => Tile.V3 m c (Proc.devRef .tc Cert.KernelIdeal.main_v10),
    (θ_run Cert.KernelIdeal.defs _ _).mono (fun _ h c => kernel_ends h c) (Tile.run_main (F := Ideal) m g),
    (θ_run Cert.ReferenceIdeal.defs _ _).mono (fun _ h c => ⟨(h c).1.trans ?_, (h c).2⟩) (Cert.ReferenceIdeal.Value.run (F := Ideal) m' g')⟩
  obtain ⟨h0, h1⟩ := hagree c
  rw [Reference.out_eq m' c (by rw [h0]; exact hin c), h0, h1]
  exact (Tile.out_eq m c (hin c)).symm

theorem claim : Cert.Claim := ⟨Cert.Kernel.Gen.facts, Cert.KernelIdeal.Gen.facts, Cert.ReferenceIdeal.Gen.facts, Cert.Pre_in_range.Gen.facts,
  frame_kernel, frame_kernelIdeal, fun m g _ => frame_kernelIdeal m g trivial, frame_reference, fun m g _ => frame_reference m g trivial,
  trivial, algebraic⟩

end Cert.Proof

end
